-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "eight_a_c" .f32 0x3E922279#32 ((80338380498831 / 281474976710656 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v18_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_v18_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56_0) = v0 c
          ∧ r.2.mem ((c.tc : Thread Cert.ReferenceIdeal.nD Cert.ReferenceIdeal.τ).loc Cert.ReferenceIdeal.main_v56_1) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x1024x5120 : Shape := ⟨3, ![16, 1024, 5120]⟩
abbrev S_ : Shape := ⟨0, ![]⟩

class Facts : Prop where
  bitsLt_bf16_f32 : FTy.bits .bf16 < FTy.bits .f32
  bcast_S_S16x1024x5120 : S_.BroadcastsInDim S16x1024x5120 (![] : Fin 0 → Fin S16x1024x5120.rank)
  reducesTo_S16x1024x5120_S_d0_1_2 : S16x1024x5120.ReducesTo [0, 1, 2] S_
  h_S_ : 0 < S_.numel

variable [Facts]

def fn {F : FTy → Type} [FloatOps F] (main_arg0 : FVec F S16x1024x5120 .bf16) : IVec S_ 1 :=
  let main_v0 : FVec F S16x1024x5120 .f32 := (extf .f32 · bitsLt_bf16_f32) main_arg0
  let main_v1 : FVec F S16x1024x5120 .f32 := Host.absf main_v0
  let main_cst : FVec F S_ .f32 := constant S_ .f32 0x7F7F0000#32
  let main_v2 : FVec F S16x1024x5120 .f32 := broadcastInDim S16x1024x5120 ![] bcast_S_S16x1024x5120 main_cst
  let main_v3 : IVec S16x1024x5120 1 := cmpf .ole main_v1 main_v2
  let main_c : IVec S_ 1 := constantI S_ 1 1#1
  let main_v4 : IVec S_ 1 := (fun x v => Host.reduce IntOp.andi x v reducesTo_S16x1024x5120_S_d0_1_2 h_S_) main_v3 main_c
  main_v4
-- ==== Kernel.lean ====
abbrev S16x1024x5120 : Shape := ⟨3, ![16, 1024, 5120]⟩
abbrev S16384x5120 : Shape := ⟨2, ![16384, 5120]⟩
abbrev S256x256 : Shape := ⟨2, ![256, 256]⟩
abbrev S_ : Shape := ⟨0, ![]⟩
abbrev S128x128 : Shape := ⟨2, ![128, 128]⟩
abbrev S128x40 : Shape := ⟨2, ![128, 40]⟩
abbrev S128x40x128 : Shape := ⟨3, ![128, 40, 128]⟩
abbrev S128x5120 : Shape := ⟨2, ![128, 5120]⟩
abbrev S16384x40 : Shape := ⟨2, ![16384, 40]⟩
abbrev S256x5120 : Shape := ⟨2, ![256, 5120]⟩
abbrev S256x40 : Shape := ⟨2, ![256, 40]⟩
abbrev S256x128 : Shape := ⟨2, ![256, 128]⟩
abbrev S256 : Shape := ⟨1, ![256]⟩
abbrev S256x1 : Shape := ⟨2, ![256, 1]⟩
abbrev S128x256 : Shape := ⟨2, ![128, 256]⟩

abbrev nBuf : Space → Nat
  | .hbm => 25
  | .vmem => 12
  | .smem => 0
  | _ => 0

abbrev bufTy : (tb : Table) → Fin (tcTables nBuf tb) → BufTy
  | .hbm, ⟨0, _⟩ => ⟨S16x1024x5120, .bf16⟩
  | .hbm, ⟨1, _⟩ => ⟨S16384x5120, .bf16⟩
  | .hbm, ⟨2, _⟩ => ⟨S256x256, .i32⟩
  | .hbm, ⟨3, _⟩ => ⟨S256x256, .i32⟩
  | .hbm, ⟨4, _⟩ => ⟨S_, .i32⟩
  | .hbm, ⟨5, _⟩ => ⟨S256x256, .i32⟩
  | .hbm, ⟨6, _⟩ => ⟨S256x256, .i32⟩
  | .hbm, ⟨7, _⟩ => ⟨S256x256, .i1⟩
  | .hbm, ⟨8, _⟩ => ⟨S256x256, .bf16⟩
  | .hbm, ⟨9, _⟩ => ⟨S_, .bf16⟩
  | .hbm, ⟨10, _⟩ => ⟨S256x256, .bf16⟩
  | .hbm, ⟨11, _⟩ => ⟨S256x256, .bf16⟩
  | .hbm, ⟨12, _⟩ => ⟨S128x128, .i32⟩
  | .hbm, ⟨13, _⟩ => ⟨S128x128, .i32⟩
  | .hbm, ⟨14, _⟩ => ⟨S_, .i32⟩
  | .hbm, ⟨15, _⟩ => ⟨S128x128, .i32⟩
  | .hbm, ⟨16, _⟩ => ⟨S128x128, .i32⟩
  | .hbm, ⟨17, _⟩ => ⟨S128x128, .i1⟩
  | .hbm, ⟨18, _⟩ => ⟨S128x128, .bf16⟩
  | .hbm, ⟨19, _⟩ => ⟨S128x40, .bf16⟩
  | .hbm, ⟨20, _⟩ => ⟨S128x40x128, .bf16⟩
  | .hbm, ⟨21, _⟩ => ⟨S128x5120, .bf16⟩
  | .hbm, ⟨22, _⟩ => ⟨S16384x5120, .bf16⟩
  | .hbm, ⟨23, _⟩ => ⟨S16384x5120, .fp8e4m3⟩
  | .hbm, ⟨24, _⟩ => ⟨S16384x40, .f32⟩
  | .local _ .vmem, ⟨0, _⟩ => ⟨S256x5120, .bf16⟩
  | .local _ .vmem, ⟨1, _⟩ => ⟨S256x5120, .bf16⟩
  | .local _ .vmem, ⟨2, _⟩ => ⟨S256x256, .bf16⟩
  | .local _ .vmem, ⟨3, _⟩ => ⟨S128x5120, .bf16⟩
  | .local _ .vmem, ⟨4, _⟩ => ⟨S256x5120, .bf16⟩
  | .local _ .vmem, ⟨5, _⟩ => ⟨S256x5120, .bf16⟩
  | .local _ .vmem, ⟨6, _⟩ => ⟨S256x5120, .fp8e4m3⟩
  | .local _ .vmem, ⟨7, _⟩ => ⟨S256x5120, .fp8e4m3⟩
  | .local _ .vmem, ⟨8, _⟩ => ⟨S256x40, .f32⟩
  | .local _ .vmem, ⟨9, _⟩ => ⟨S256x40, .f32⟩
  | .local _ .vmem, ⟨10, _⟩ => ⟨S256x5120, .f32⟩
  | .local _ .vmem, ⟨11, _⟩ => ⟨S256x128, .f32⟩
  | _, _ => ⟨S16x1024x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18_0 : Ref sig .tc := ⟨.hbm, 22, rfl⟩
abbrev main_v18_1 : Ref sig .tc := ⟨.hbm, 23, rfl⟩
abbrev main_v18_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x5120 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5120 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x40 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "eight_a_c" => some ((80338380498831 / 281474976710656 : ℝ) : EReal)
  | _ => none
-- ==== ReferenceIdeal.lean ====
abbrev S16x1024x5120 : Shape := ⟨3, ![16, 1024, 5120]⟩
abbrev S16384x5120 : Shape := ⟨2, ![16384, 5120]⟩
abbrev S_ : Shape := ⟨0, ![]⟩
abbrev S16384x40x128 : Shape := ⟨3, ![16384, 40, 128]⟩
abbrev S16384x40 : Shape := ⟨2, ![16384, 40]⟩
abbrev S254 : Shape := ⟨1, ![254]⟩
abbrev S16384x40x1 : Shape := ⟨3, ![16384, 40, 1]⟩
abbrev S1x1x254 : Shape := ⟨3, ![1, 1, 254]⟩
abbrev S16384x40x254 : Shape := ⟨3, ![16384, 40, 254]⟩

abbrev nBuf : Space → Nat
  | .hbm => 79
  | .vmem => 4
  | .smem => 0
  | _ => 0

abbrev bufTy : (tb : Table) → Fin (tcTables nBuf tb) → BufTy
  | .hbm, ⟨0, _⟩ => ⟨S16x1024x5120, .bf16⟩
  | .hbm, ⟨1, _⟩ => ⟨S16384x5120, .bf16⟩
  | .hbm, ⟨2, _⟩ => ⟨S16384x5120, .f32⟩
  | .hbm, ⟨3, _⟩ => ⟨S_, .f32⟩
  | .hbm, ⟨4, _⟩ => ⟨S16384x5120, .f32⟩
  | .hbm, ⟨5, _⟩ => ⟨S16384x5120, .f32⟩
  | .hbm, ⟨6, _⟩ => ⟨S_, .f32⟩
  | .hbm, ⟨7, _⟩ => ⟨S16384x5120, .f32⟩
  | .hbm, ⟨8, _⟩ => ⟨S16384x5120, .f32⟩
  | .hbm, ⟨9, _⟩ => ⟨S16384x5120, .f32⟩
  | .hbm, ⟨10, _⟩ => ⟨S16384x5120, .f32⟩
  | .hbm, ⟨11, _⟩ => ⟨S16384x5120, .f32⟩
  | .hbm, ⟨12, _⟩ => ⟨S_, .f32⟩
  | .hbm, ⟨13, _⟩ => ⟨S16384x5120, .f32⟩
  | .hbm, ⟨14, _⟩ => ⟨S16384x5120, .f32⟩
  | .hbm, ⟨15, _⟩ => ⟨S16384x5120, .f32⟩
  | .hbm, ⟨16, _⟩ => ⟨S_, .f32⟩
  | .hbm, ⟨17, _⟩ => ⟨S16384x5120, .f32⟩
  | .hbm, ⟨18, _⟩ => ⟨S16384x5120, .f32⟩
  | .hbm, ⟨19, _⟩ => ⟨S16384x5120, .f32⟩
  | .hbm, ⟨20, _⟩ => ⟨S16384x40x128, .f32⟩
  | .hbm, ⟨21, _⟩ => ⟨S16384x40x128, .f32⟩
  | .hbm, ⟨22, _⟩ => ⟨S_, .f32⟩
  | .hbm, ⟨23, _⟩ => ⟨S16384x40, .f32⟩
  | .hbm, ⟨24, _⟩ => ⟨S_, .f32⟩
  | .hbm, ⟨25, _⟩ => ⟨S16384x40, .f32⟩
  | .hbm, ⟨26, _⟩ => ⟨S16384x40, .f32⟩
  | .hbm, ⟨27, _⟩ => ⟨S_, .f32⟩
  | .hbm, ⟨28, _⟩ => ⟨S254, .f32⟩
  | .hbm, ⟨29, _⟩ => ⟨S254, .i32⟩
  | .hbm, ⟨30, _⟩ => ⟨S_, .i32⟩
  | .hbm, ⟨31, _⟩ => ⟨S254, .i32⟩
  | .hbm, ⟨32, _⟩ => ⟨S254, .i32⟩
  | .hbm, ⟨33, _⟩ => ⟨S254, .f32⟩
  | .hbm, ⟨34, _⟩ => ⟨S254, .f32⟩
  | .hbm, ⟨35, _⟩ => ⟨S16384x40x1, .f32⟩
  | .hbm, ⟨36, _⟩ => ⟨S1x1x254, .f32⟩
  | .hbm, ⟨37, _⟩ => ⟨S16384x40x254, .f32⟩
  | .hbm, ⟨38, _⟩ => ⟨S16384x40x254, .f32⟩
  | .hbm, ⟨39, _⟩ => ⟨S16384x40x254, .i1⟩
  | .hbm, ⟨40, _⟩ => ⟨S16384x40x254, .i32⟩
  | .hbm, ⟨41, _⟩ => ⟨S_, .i32⟩
  | .hbm, ⟨42, _⟩ => ⟨S16384x40, .i32⟩
  | .hbm, ⟨43, _⟩ => ⟨S_, .i32⟩
  | .hbm, ⟨44, _⟩ => ⟨S16384x40, .i32⟩
  | .hbm, ⟨45, _⟩ => ⟨S16384x40, .i32⟩
  | .hbm, ⟨46, _⟩ => ⟨S_, .f32⟩
  | .hbm, ⟨47, _⟩ => ⟨S16384x40, .f32⟩
  | .hbm, ⟨48, _⟩ => ⟨S16384x40, .i1⟩
  | .hbm, ⟨49, _⟩ => ⟨S_, .i32⟩
  | .hbm, ⟨50, _⟩ => ⟨S16384x40, .i32⟩
  | .hbm, ⟨51, _⟩ => ⟨S16384x40, .i32⟩
  | .hbm, ⟨52, _⟩ => ⟨S16384x40, .f32⟩
  | .hbm, ⟨53, _⟩ => ⟨S_, .f32⟩
  | .hbm, ⟨54, _⟩ => ⟨S16384x40, .f32⟩
  | .hbm, ⟨55, _⟩ => ⟨S16384x40, .f32⟩
  | .hbm, ⟨56, _⟩ => ⟨S16384x40, .f32⟩
  | .hbm, ⟨57, _⟩ => ⟨S16384x40, .f32⟩
  | .hbm, ⟨58, _⟩ => ⟨S16384x40, .bf16⟩
  | .hbm, ⟨59, _⟩ => ⟨S16384x40, .f32⟩
  | .hbm, ⟨60, _⟩ => ⟨S16384x40x1, .f32⟩
  | .hbm, ⟨61, _⟩ => ⟨S16384x40x128, .f32⟩
  | .hbm, ⟨62, _⟩ => ⟨S16384x40x128, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S16384x40x128, .f32⟩
  | .hbm, ⟨67, _⟩ => ⟨S16384x40x128, .f32⟩
  | .hbm, ⟨68, _⟩ => ⟨S_, .f32⟩
  | .hbm, ⟨69, _⟩ => ⟨S16384x40x128, .f32⟩
  | .hbm, ⟨70, _⟩ => ⟨S16384x40x128, .f32⟩
  | .hbm, ⟨71, _⟩ => ⟨S16384x5120, .f32⟩
  | .hbm, ⟨72, _⟩ => ⟨S16384x40, .bf16⟩
  | .hbm, ⟨73, _⟩ => ⟨S16384x40, .f32⟩
  | .hbm, ⟨74, _⟩ => ⟨S16384x40x1, .f32⟩
  | .hbm, ⟨75, _⟩ => ⟨S16384x40x128, .f32⟩
  | .hbm, ⟨76, _⟩ => ⟨S16384x5120, .f32⟩
  | .hbm, ⟨77, _⟩ => ⟨S16384x5120, .bf16⟩
  | .hbm, ⟨78, _⟩ => ⟨S16384x5120, .fp8e4m3⟩
  | .local _ .vmem, ⟨0, _⟩ => ⟨S16384x5120, .f32⟩
  | .local _ .vmem, ⟨1, _⟩ => ⟨S16384x5120, .f32⟩
  | .local _ .vmem, ⟨2, _⟩ => ⟨S16384x5120, .bf16⟩
  | .local _ .vmem, ⟨3, _⟩ => ⟨S16384x5120, .fp8e4m3⟩
  | _, _ => ⟨S16x1024x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_3 : Ref sig .tc := ⟨.hbm, 22, rfl⟩
abbrev main_v17 : Ref sig .tc := ⟨.hbm, 23, rfl⟩
abbrev main_cst_4 : Ref sig .tc := ⟨.hbm, 24, rfl⟩
abbrev main_v18 : Ref sig .tc := ⟨.hbm, 25, rfl⟩
abbrev main_v19 : Ref sig .tc := ⟨.hbm, 26, rfl⟩
abbrev main_cst_5 : Ref sig .tc := ⟨.hbm, 27, rfl⟩
abbrev main_v20 : Ref sig .tc := ⟨.hbm, 28, rfl⟩
abbrev main_v21 : Ref sig .tc := ⟨.hbm, 29, rfl⟩
abbrev main_c : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c_6 : Ref sig .tc := ⟨.hbm, 41, rfl⟩
abbrev main_v32 : Ref sig .tc := ⟨.hbm, 42, rfl⟩
abbrev main_c_7 : Ref sig .tc := ⟨.hbm, 43, rfl⟩
abbrev main_v33 : Ref sig .tc := ⟨.hbm, 44, rfl⟩
abbrev main_v34 : Ref sig .tc := ⟨.hbm, 45, rfl⟩
abbrev main_cst_8 : Ref sig .tc := ⟨.hbm, 46, rfl⟩
abbrev main_v35 : Ref sig .tc := ⟨.hbm, 47, rfl⟩
abbrev main_v36 : Ref sig .tc := ⟨.hbm, 48, rfl⟩
abbrev main_c_9 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_10 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_11 : Ref sig .tc := ⟨.hbm, 63, rfl⟩
abbrev main_cst_12 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56_0 : Ref sig .tc := ⟨.hbm, 77, rfl⟩
abbrev main_v56_1 : Ref sig .tc := ⟨.hbm, 78, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16384x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Exponent.lean ====
/-
  The exponent of a number of the group maxima. The kernel finds the exponent field bit by bit: the largest n whose power
  of two is at most b. What the search ends with, and the powers of two the scale and its reciprocal are made from.
-/
module

public import Idealize.ShloMosaic.PureOps.Ideal
public import Idealize.ShloMosaic.Lib.Pointwise

@[expose] public section

noncomputable section

open Idealize.ShloMosaic

namespace Cert.Exponent

/-- What the f32 with exponent field n and no fraction denotes. -/
def pwr (n : ℕ) : EReal := if n = 0 then 0 else if n = 255 then ⊤ else (((2 : ℝ) ^ ((n : ℤ) - 127) : ℝ) : EReal)

theorem pwr_zero : pwr 0 = 0 := by simp [pwr]

theorem pwr_of {n : ℕ} (h0 : n ≠ 0) (h1 : n ≠ 255) : pwr n = (((2 : ℝ) ^ ((n : ℤ) - 127) : ℝ) : EReal) := by
  simp [pwr, h0, h1]

theorem fields : ∀ n : Fin 256, (BitVec.ofNat 32 (n.val * 2 ^ 23)).extractLsb' (8 + 23) 1 = 0#1
    ∧ ((BitVec.ofNat 32 (n.val * 2 ^ 23)).extractLsb' 23 8).toNat = n.val
    ∧ ((BitVec.ofNat 32 (n.val * 2 ^ 23)).extractLsb' 0 23).toNat = 0 := by decide +kernel

theorem ofBits_pwr (n : ℕ) (h : n < 256) : Ideal.ofBits .f32 (BitVec.ofNat 32 (n * 2 ^ 23)) = pwr n := by
  obtain ⟨h1, h2, h3⟩ := fields ⟨n, h⟩
  simp only at h1 h2 h3
  show Ideal.ieee 8 23 (BitVec.ofNat 32 (n * 2 ^ 23)) = pwr n
  unfold Ideal.ieee pwr
  simp only [h1, h2, h3]
  by_cases a : n = 255
  · subst a; simp
  · by_cases b : n = 0
    · subst b; simp
    · rw [if_neg (by omega), if_neg b, if_neg b, if_neg a]
      congr 1
      have : (2 : ℝ) ≠ 0 := by norm_num
      push_cast
      rw [sub_eq_add_neg ((n : ℤ) - 127) 23, zpow_add₀ this]
      norm_num
      ring

/-- The powers grow with the field. -/
theorem pwr_mono {a b : ℕ} (h : a ≤ b) (hb : b < 256) : pwr a ≤ pwr b := by
  unfold pwr
  split_ifs with h1 h2 h3 h4 h5 h6 <;> first | omega | exact le_rfl | exact le_top | skip
  · exact EReal.coe_nonneg.mpr (by positivity)
  · exact EReal.coe_le_coe_iff.mpr (zpow_le_zpow_right₀ (by norm_num) (by omega))

/-! ## The search -/

/-- One step: the bit is kept when the power it leads to is at most b. -/
def step (b : EReal) (k f : BitVec 32) : BitVec 32 :=
  Scalar.select (FloatOps.cmpf (F := Ideal) (φ := .f32) .oge b
    (FloatOps.ofBits (F := Ideal) .f32 (IntOp.shli .vector (IntOp.addi f k) 23#32))) (IntOp.addi f k) f

/-- The eight steps, from the top bit down. -/
def field (b : EReal) : BitVec 32 :=
  step b 1#32 (step b 2#32 (step b 4#32 (step b 8#32 (step b 16#32 (step b 32#32 (step b 64#32 (step b 128#32 0#32)))))))

theorem shl : ∀ n : Fin 256, IntOp.shli .vector (BitVec.ofNat 32 n.val) 23#32 = BitVec.ofNat 32 (n.val * 2 ^ 23) := by decide +kernel

theorem step_ofNat (b : EReal) (k f : ℕ) (h : f + k < 256) :
    step b (BitVec.ofNat 32 k) (BitVec.ofNat 32 f) = if pwr (f + k) ≤ b then BitVec.ofNat 32 (f + k) else BitVec.ofNat 32 f := by
  have e : IntOp.addi (BitVec.ofNat 32 f) (BitVec.ofNat 32 k) = BitVec.ofNat 32 (f + k) := by
    show BitVec.ofNat 32 f + BitVec.ofNat 32 k = _
    exact (BitVec.ofNat_add f k).symm
  unfold step
  rw [e, shl ⟨f + k, h⟩]
  show Scalar.select (Ideal.cmp .oge b (Ideal.ofBits .f32 (BitVec.ofNat 32 ((f + k) * 2 ^ 23)))) _ _ = _
  rw [ofBits_pwr _ h]
  unfold Scalar.select Ideal.cmp
  by_cases hb : pwr (f + k) ≤ b <;> simp [hb]

/-- The field lies in [f, f + k): the power of f is at most b and, inside the range of fields, the power of f + k is not. -/
def Inv (b : EReal) (f k : ℕ) : Prop := f + k ≤ 256 ∧ pwr f ≤ b ∧ (f + k < 256 → b < pwr (f + k))

theorem step_inv (b : EReal) (k : ℕ) (hk : 0 < k) (w : BitVec 32) (h : ∃ f, w = BitVec.ofNat 32 f ∧ Inv b f (k + k)) :
    ∃ f, step b (BitVec.ofNat 32 k) w = BitVec.ofNat 32 f ∧ Inv b f k := by
  obtain ⟨f, rfl, h1, h2, h3⟩ := h
  rw [step_ofNat b k f (by omega)]
  by_cases hb : pwr (f + k) ≤ b
  · exact ⟨f + k, by rw [if_pos hb], by omega, hb, fun h => by rw [add_assoc] at h ⊢; exact h3 h⟩
  · exact ⟨f, by rw [if_neg hb], by omega, h2, fun _ => not_le.mp hb⟩

theorem field_inv (b : EReal) (h : 0 ≤ b) : ∃ n, field b = BitVec.ofNat 32 n ∧ Inv b n 1 := by
  unfold field
  refine step_inv b 1 (by omega) _ (step_inv b 2 (by omega) _ (step_inv b 4 (by omega) _ (step_inv b 8 (by omega) _
    (step_inv b 16 (by omega) _ (step_inv b 32 (by omega) _ (step_inv b 64 (by omega) _ (step_inv b 128 (by omega) _ ?_)))))))
  exact ⟨0, rfl, by omega, by rw [pwr_zero]; exact h, fun h => absurd h (by omega)⟩

/-- `n` is the exponent field of b: 0 below the least normal number. -/
def IsField (b : EReal) (n : ℕ) : Prop := n ≤ 246 ∧ pwr n ≤ b ∧ b < pwr (n + 1)

theorem field_spec (b : EReal) (h : 0 ≤ b) (hb : b < pwr 247) : ∃ n, field b = BitVec.ofNat 32 n ∧ IsField b n := by
  obtain ⟨n, e, h1, h2, h3⟩ := field_inv b h
  have hn : n ≤ 246 := by
    by_contra hc
    exact absurd (lt_of_le_of_lt ((pwr_mono (by omega : 247 ≤ n) (by omega)).trans h2) hb) (lt_irrefl _)
  exact ⟨n, e, hn, h2, h3 (by omega)⟩

/-! ## The exponent and its powers -/

/-- The exponent word. -/
def expo (b : EReal) : BitVec 32 :=
  Scalar.select (IntOp.cmpi .eq (field b) 0#32) 0#32 (IntOp.subi (field b) 126#32)

/-- 2 to the exponent, and to minus the exponent, as the kernel makes them: a field of bits. -/
def kscale (b : EReal) : EReal := FloatOps.ofBits (F := Ideal) .f32 (IntOp.shli .vector (IntOp.addi (expo b) 127#32) 23#32)
def kinv (b : EReal) : EReal := FloatOps.ofBits (F := Ideal) .f32 (IntOp.shli .vector (IntOp.subi 127#32 (expo b)) 23#32)

/-- The exponent of a field. -/
def ex (n : ℕ) : ℤ := if n = 0 then 0 else (n : ℤ) - 126

/-- The exponent word of a field. -/
def word (n : ℕ) : BitVec 32 := if n = 0 then 0#32 else BitVec.ofNat 32 n - 126#32

theorem words : ∀ n : Fin 247, Scalar.select (IntOp.cmpi .eq (BitVec.ofNat 32 n.val) 0#32) 0#32 (IntOp.subi (BitVec.ofNat 32 n.val) 126#32) = word n.val
    ∧ IntOp.shli .vector (IntOp.addi (word n.val) 127#32) 23#32 = BitVec.ofNat 32 ((ex n.val + 127).toNat * 2 ^ 23)
    ∧ IntOp.shli .vector (IntOp.subi 127#32 (word n.val)) 23#32 = BitVec.ofNat 32 ((127 - ex n.val).toNat * 2 ^ 23)
    ∧ (word n.val).toInt = ex n.val := by decide +kernel

theorem ex_bounds (n : ℕ) (h : n ≤ 246) : -125 ≤ ex n ∧ ex n ≤ 120 := by
  unfold ex; split_ifs <;> omega

theorem kscale_eq (b : EReal) (n : ℕ) (e : field b = BitVec.ofNat 32 n) (h : n ≤ 246) : kscale b = (((2 : ℝ) ^ ex n : ℝ) : EReal) := by
  obtain ⟨w1, w2, -, -⟩ := words ⟨n, by omega⟩
  obtain ⟨b1, b2⟩ := ex_bounds n h
  simp only at w1 w2
  unfold kscale expo
  rw [e, w1, w2]
  show Ideal.ofBits .f32 _ = _
  rw [ofBits_pwr _ (by omega), pwr_of (by omega) (by omega)]
  congr 2
  omega

theorem kinv_eq (b : EReal) (n : ℕ) (e : field b = BitVec.ofNat 32 n) (h : n ≤ 246) : kinv b = (((2 : ℝ) ^ (-ex n) : ℝ) : EReal) := by
  obtain ⟨w1, -, w3, -⟩ := words ⟨n, by omega⟩
  obtain ⟨b1, b2⟩ := ex_bounds n h
  simp only at w1 w3
  unfold kinv expo
  rw [e, w1, w3]
  show Ideal.ofBits .f32 _ = _
  rw [ofBits_pwr _ (by omega), pwr_of (by omega) (by omega)]
  congr 2
  omega

end Cert.Exponent

end
-- ==== Proof.Payload.lean ====
/-
  What the kernel's payloads are at an index, read over the extended reals.
-/
module

public import proofs.«01_k».proof.Defs
public import proofs.«01_k».proof.Proof.Gen.KernelIdeal.Frame
public import Idealize.ShloMosaic.Lib.Pipeline.ValueKit
public import Idealize.ShloMosaic.Lib.Pipeline.ReadBack
public import Idealize.ShloMosaic.Lib.Pointwise
public import proofs.«01_k».proof.Proof.Exponent

@[expose] public section

set_option maxRecDepth 16384

noncomputable section
open Idealize.ShloMosaic Idealize.ShloMosaic.TcCoe Idealize.SL.Sem
namespace Cert.KernelIdeal.Value
open Cert.KernelIdeal Cert.KernelIdeal.Gen

open Cert.Exponent

/-- GELU of twice h, as the kernel computes it. -/
def gk (h : EReal) : EReal :=
  h * (1 + Ideal.tanh (h * (h * h * Named.named (F := Ideal) κ "eight_a_c" (φ := .f32) 0x3E922279#32 + Ideal.ofBits .f32 0x3FCC422A#32)))

theorem pay6_at (X H : FVec Ideal S256x256 .bf16) (j : S256x256.Idx) :
    k0_pay6 (F := Ideal) X H j = gk (∑ k : Fin 256, X (ix2 (j 0) k) * H (ix2 k (j 1))) := by
  pointwise [k0_pay6, k0_pay5]
  rfl

theorem pay5_at (X H : FVec Ideal S256x256 .bf16) (j : S256x256.Idx) :
    k0_pay5 (F := Ideal) X H j = gk (∑ k : Fin 256, X (ix2 (j 0) k) * H (ix2 k (j 1))) := by
  pointwise [k0_pay5]
  rfl

theorem pay7_at (X H : FVec Ideal S256x256 .bf16) (j : S256x1.Idx) :
    k0_pay7 (F := Ideal) X H j = Finset.univ.fold max (Ideal.ofBits .f32 0xFF800000#32)
      fun k : Fin 128 => FloatOps.absf (F := Ideal) (φ := .f32) (k0_pay5 X H (ix2 (j 0) ⟨k.val, by omega⟩)) := by
  pointwise [k0_pay7]

theorem pay8_at (X H : FVec Ideal S256x256 .bf16) (j : S256x1.Idx) :
    k0_pay8 (F := Ideal) X H j = Finset.univ.fold max (Ideal.ofBits .f32 0xFF800000#32)
      fun k : Fin 128 => FloatOps.absf (F := Ideal) (φ := .f32) (k0_pay5 X H (ix2 (j 0) ⟨128 + k.val, by omega⟩)) := by
  pointwise [k0_pay8]

theorem pay2_at (a : FVec Ideal S256x128 .bf16) (e : FVec Ideal S128x256 .bf16) (g : FVec Ideal S256x256 .f32) (j : S256x256.Idx) :
    k0_pay2 (F := Ideal) a e g j = min (Ideal.ofBits .f32 0x43E00000#32) (max (Ideal.ofBits .f32 0xC3E00000#32)
      (g j * ∑ k : Fin 128, a (ix2 (j 0) k) * e (ix2 k (j 1)))) := by
  pointwise [k0_pay2, k0_pay1]

theorem pay3_at (a b : FVec Ideal S256x128 .bf16) (e : FVec Ideal S128x256 .bf16) (g : FVec Ideal S256x256 .f32) (j : S256x256.Idx) :
    k0_pay3 (F := Ideal) a b e g j = k0_pay2 (F := Ideal) a e g j * ∑ k : Fin 128, b (ix2 (j 0) k) * e (ix2 k (j 1)) := by
  pointwise [k0_pay3, k0_pay1]

/-! ## The exponent of every group -/

/-- The scale and its reciprocal, of an array of largest magnitudes. -/
abbrev scaleOf (A : FVec Ideal S256x128 .f32) : FVec Ideal S256x128 .f32 := k0_pay108 (k0_pay103 (F := Ideal) A) (k0_pay104 (F := Ideal) A) (k0_pay105 (F := Ideal) A) (k0_pay106 (F := Ideal) A)
abbrev invOf (A : FVec Ideal S256x128 .f32) : FVec Ideal S256x128 .bf16 := k0_pay110 (k0_pay103 (F := Ideal) A) (k0_pay104 (F := Ideal) A) (k0_pay105 (F := Ideal) A) (k0_pay106 (F := Ideal) A)
abbrev scaleOf' (A : FVec Ideal S256x128 .f32) : FVec Ideal S256x128 .bf16 := k0_pay111 (k0_pay103 (F := Ideal) A) (k0_pay104 (F := Ideal) A) (k0_pay105 (F := Ideal) A) (k0_pay106 (F := Ideal) A)

/-- The ratio of a largest magnitude to 448. -/
def over (a : EReal) : EReal := a * Ideal.ofBits .f32 0x3B124925#32

theorem pay104_at (A : FVec Ideal S256x128 .f32) (j : S256x128.Idx) :
    k0_pay104 (F := Ideal) A j = step (over (A j)) 16#32 (step (over (A j)) 32#32 (step (over (A j)) 64#32 (step (over (A j)) 128#32 0#32))) := rfl

theorem pay107_at (A : FVec Ideal S256x128 .f32) (j : S256x128.Idx) :
    k0_pay107 (F := Ideal) (k0_pay103 (F := Ideal) A) (k0_pay104 (F := Ideal) A) (k0_pay105 (F := Ideal) A) (k0_pay106 (F := Ideal) A) j = expo (over (A j)) := by
  have h := pay104_at A j
  unfold expo field
  rw [← h]
  rfl

theorem scaleOf_at (A : FVec Ideal S256x128 .f32) (j : S256x128.Idx) : scaleOf A j = kscale (over (A j)) := by
  unfold kscale
  rw [← pay107_at]
  rfl

theorem scaleOf'_at (A : FVec Ideal S256x128 .f32) (j : S256x128.Idx) : scaleOf' A j = kscale (over (A j)) := by
  rw [← scaleOf_at]
  rfl

theorem invOf_at (A : FVec Ideal S256x128 .f32) (j : S256x128.Idx) : invOf A j = kinv (over (A j)) := by
  unfold kinv
  rw [← pay107_at]
  rfl
end Cert.KernelIdeal.Value
end
-- ==== Proof.Block.lean ====
/-
  What one block of the kernel computes, read over the extended reals.
-/
module

public import proofs.«01_k».proof.Defs
public import proofs.«01_k».proof.Proof.Gen.KernelIdeal.Frame
public import Idealize.ShloMosaic.Lib.Pipeline.ValueKit
public import Idealize.ShloMosaic.Lib.Pipeline.ReadBack
public import Idealize.ShloMosaic.Lib.Pointwise
public import proofs.«01_k».proof.Proof.Payload
public import proofs.«01_k».proof.Proof.Exponent

@[expose] public section

set_option maxRecDepth 16384

noncomputable section
open Idealize.ShloMosaic Idealize.ShloMosaic.TcCoe Idealize.SL.Sem
namespace Cert.KernelIdeal.Value
open Cert.KernelIdeal Cert.KernelIdeal.Gen

open Cert.Exponent

/-! ## The two scratches, in closed form -/

/-- Half of an entry of the block: its row's segment of 256 entries against the halving matrix. -/
def hB (B : FVec Ideal S256x5120 .bf16) (H : FVec Ideal S256x256 .bf16) (i : S256x5120.Idx) : EReal :=
  ∑ k : Fin 256, B (ix2 (i 0) ⟨(i 1).val / 256 * 256 + k.val, by have h : (i 1).val < 5120 := (i 1).isLt; omega⟩) * H (ix2 k ⟨(i 1).val % 256, Nat.mod_lt _ (by decide)⟩)

/-- The block's GELU. -/
def gB (B : FVec Ideal S256x5120 .bf16) (H : FVec Ideal S256x256 .bf16) (i : S256x5120.Idx) : EReal := gk (hB B H i)

/-- The largest magnitude of every group of 128 entries: 40 columns of 128 are groups. -/
def aB (B : FVec Ideal S256x5120 .bf16) (H : FVec Ideal S256x256 .bf16) (i : S256x128.Idx) : EReal :=
  Finset.univ.fold max (Ideal.ofBits .f32 0xFF800000#32) fun k : Fin 128 =>
    FloatOps.absf (F := Ideal) (φ := .f32) (gB B H (ix2 (i 0) ⟨((i 1).val * 128 + k.val) % 5120, Nat.mod_lt _ (by decide)⟩))

/-- A segment of 256 columns of the block, and the halving matrix, as the kernel loads them. -/
abbrev ldX (B : FVec Ideal S256x5120 .bf16) (o : ℕ) (inb : ∀ a, (![0, o] : Fin 2 → ℕ) a + (![256, 256] : Fin 2 → ℕ) a ≤ S256x5120.size a) : FVec Ideal S256x256 .bf16 :=
  View.ld (S := S256x5120) (e' := .bf16) (Val := Elt Ideal) B (Rect.unit (s := S256x5120) ![0, o] ![256, 256] inb)
abbrev ldH (H : FVec Ideal S256x256 .bf16) (inb : ∀ a, (![0, 0] : Fin 2 → ℕ) a + (![256, 256] : Fin 2 → ℕ) a ≤ S256x256.size a) : FVec Ideal S256x256 .bf16 :=
  View.ld (S := S256x256) (e' := .bf16) (Val := Elt Ideal) H (Rect.unit (s := S256x256) ![0, 0] ![256, 256] inb)

theorem hB_piece (B : FVec Ideal S256x5120 .bf16) (H : FVec Ideal S256x256 .bf16) (o : ℕ) (ho : o % 256 = 0)
    (inb : ∀ a, (![0, o] : Fin 2 → ℕ) a + (![256, 256] : Fin 2 → ℕ) a ≤ S256x5120.size a)
    (inb' : ∀ a, (![0, 0] : Fin 2 → ℕ) a + (![256, 256] : Fin 2 → ℕ) a ≤ S256x256.size a) (x : S256x256.Idx) :
    ∑ k : Fin 256, ldX B o inb (ix2 (x 0) k) * ldH H inb' (ix2 k (x 1))
      = hB B H ((Rect.unit (s := S256x5120) ![0, o] ![256, 256] inb).emb x) := by
  have hx : (x 1).val < 256 := (x 1).isLt
  unfold hB
  refine Finset.sum_congr rfl fun k _ => ?_
  have e1 : ldX B o inb (ix2 (x 0) k) = B _ := rfl
  have e2 : ldH H inb' (ix2 k (x 1)) = H _ := rfl
  rw [e1, e2]
  congr 2 <;> ext a <;> fin_cases a <;> simp [Rect.unit, Rect.emb] <;> omega

theorem gB_piece (B : FVec Ideal S256x5120 .bf16) (H : FVec Ideal S256x256 .bf16) (o : ℕ) (ho : o % 256 = 0)
    (inb : ∀ a, (![0, o] : Fin 2 → ℕ) a + (![256, 256] : Fin 2 → ℕ) a ≤ S256x5120.size a)
    (inb' : ∀ a, (![0, 0] : Fin 2 → ℕ) a + (![256, 256] : Fin 2 → ℕ) a ≤ S256x256.size a) (x : S256x256.Idx) :
    k0_pay6 (F := Ideal) (ldX B o inb) (ldH H inb') x
      = gB B H ((Rect.unit (s := S256x5120) ![0, o] ![256, 256] inb).emb x) := by
  rw [pay6_at, hB_piece B H o ho inb inb' x]
  rfl

theorem gB_piece5 (B : FVec Ideal S256x5120 .bf16) (H : FVec Ideal S256x256 .bf16) (o : ℕ) (ho : o % 256 = 0)
    (inb : ∀ a, (![0, o] : Fin 2 → ℕ) a + (![256, 256] : Fin 2 → ℕ) a ≤ S256x5120.size a)
    (inb' : ∀ a, (![0, 0] : Fin 2 → ℕ) a + (![256, 256] : Fin 2 → ℕ) a ≤ S256x256.size a) (r : Fin 256) (l : ℕ) (hl : l < 256) (hol : o + l < 5120) :
    k0_pay5 (F := Ideal) (ldX B o inb) (ldH H inb') (ix2 r ⟨l, hl⟩) = gB B H (ix2 r ⟨o + l, hol⟩) := by
  rw [pay5_at, hB_piece B H o ho inb inb' (ix2 r ⟨l, hl⟩)]
  unfold gB
  congr 2
  ext a; fin_cases a <;> simp [Rect.unit, Rect.emb]

/-- A piece is column q of G. -/
def Col (G : S256x128.Idx → EReal) (q : ℕ) (p : View.Piece (Elt Ideal) S256x128 .f32) : Prop :=
  (∀ x : p.1.shape.Idx, p.2 x = G (p.1.emb x)) ∧ ∀ y : S256x128.Idx, y ∈ p.1.set ↔ (y 1).val = q

/-- The pieces at the head of a list are columns n-1, …, 0 of G. -/
def Cols (G : S256x128.Idx → EReal) : ℕ → List (View.Piece (Elt Ideal) S256x128 .f32) → Prop
  | 0, _ => True
  | _ + 1, [] => False
  | n + 1, p :: L => Col G n p ∧ Cols G n L

theorem Cols.canon {G : S256x128.Idx → EReal} : ∀ {n : ℕ} {L : List (View.Piece (Elt Ideal) S256x128 .f32)}, Cols G n L →
    ∀ y : S256x128.Idx, (y 1).val < n → View.canon L y = G y
  | 0, _, _, y, h => absurd h (Nat.not_lt_zero _)
  | _ + 1, [], h, _, _ => h.elim
  | n + 1, p :: L, h, y, hy => by
    by_cases hm : y ∈ p.1.set
    · exact View.canon_append_of_piecesOf (Val := Elt Ideal) G L [p] ⟨h.1.1, trivial⟩ y ⟨p, List.mem_singleton.mpr rfl, hm⟩
    · rw [View.canon_cons_of_not_mem _ _ hm]
      refine Cols.canon h.2 y ?_
      have := (h.1.2 y).not.mp hm
      omega

theorem Cols.cons {G : S256x128.Idx → EReal} {n : ℕ} {p : View.Piece (Elt Ideal) S256x128 .f32} {L : List (View.Piece (Elt Ideal) S256x128 .f32)}
    (h : Col G n p) (h' : Cols G n L) : Cols G (n + 1) (p :: L) := ⟨h, h'⟩

theorem col_set (q : ℕ) (inq : ∀ a, (![0, q] : Fin 2 → ℕ) a + (![256, 1] : Fin 2 → ℕ) a ≤ S256x128.size a) (y : S256x128.Idx) :
    y ∈ (Rect.unit (s := S256x128) ![0, q] ![256, 1] inq).set ↔ (y 1).val = q := by
  have h0 : (y 0).val < 256 := (y 0).isLt
  rw [Rect.mem_set_unit, Fin.forall_fin_two]
  simp only [Matrix.cons_val_zero, Matrix.cons_val_one]
  omega

theorem col_emb (q : ℕ) (hq : q < 128) (inq : ∀ a, (![0, q] : Fin 2 → ℕ) a + (![256, 1] : Fin 2 → ℕ) a ≤ S256x128.size a) (x : S256x1.Idx) :
    (ix2 (x 0) ⟨q, hq⟩ : S256x128.Idx) = (Rect.unit (s := S256x128) ![0, q] ![256, 1] inq).emb x := by
  have hx : (x 1).val < 1 := (x 1).isLt
  ext a; fin_cases a <;> simp [Rect.unit, Rect.emb] <;> omega

/-- A group's largest magnitude: the lower half of a segment. -/
theorem aB_half0 (B : FVec Ideal S256x5120 .bf16) (H : FVec Ideal S256x256 .bf16) (o q : ℕ) (ho : o % 256 = 0) (hq : q * 128 = o)
    (inb : ∀ a, (![0, o] : Fin 2 → ℕ) a + (![256, 256] : Fin 2 → ℕ) a ≤ S256x5120.size a)
    (inb' : ∀ a, (![0, 0] : Fin 2 → ℕ) a + (![256, 256] : Fin 2 → ℕ) a ≤ S256x256.size a) (hq' : q < 128) (x : S256x1.Idx) :
    k0_pay7 (F := Ideal) (ldX B o inb) (ldH H inb') x = aB B H (ix2 (x 0) ⟨q, hq'⟩) := by
  have h5 : o + 256 ≤ 5120 := inb 1
  rw [pay7_at]
  unfold aB
  refine Finset.fold_congr fun k _ => ?_
  have hk : k.val < 128 := k.isLt
  rw [gB_piece5 B H o ho inb inb' (x 0) (k.val) (by omega) (by omega)]
  have e : (⟨o + (k.val), by omega⟩ : Fin 5120) = ⟨(q * 128 + k.val) % 5120, Nat.mod_lt _ (by decide)⟩ := Fin.ext (by simp only; omega)
  rw [e]
  rfl

theorem col_of (G : S256x128.Idx → EReal) (q : ℕ) (hq' : q < 128) (w : S256x1.Idx → EReal)
    (inq : ∀ a, (![0, q] : Fin 2 → ℕ) a + (![256, 1] : Fin 2 → ℕ) a ≤ S256x128.size a)
    (h : ∀ x : S256x1.Idx, w x = G (ix2 (x 0) ⟨q, hq'⟩)) :
    Col G q ⟨Rect.unit (s := S256x128) ![0, q] ![256, 1] inq, w⟩ := by
  refine ⟨fun x => ?_, col_set q inq⟩
  exact (h x).trans (congrArg G (col_emb q hq' inq x))

theorem aB_piece0 (B : FVec Ideal S256x5120 .bf16) (H : FVec Ideal S256x256 .bf16) (o q : ℕ) (ho : o % 256 = 0) (hq : q * 128 = o) (hq' : q < 128)
    (inb : ∀ a, (![0, o] : Fin 2 → ℕ) a + (![256, 256] : Fin 2 → ℕ) a ≤ S256x5120.size a)
    (inb' : ∀ a, (![0, 0] : Fin 2 → ℕ) a + (![256, 256] : Fin 2 → ℕ) a ≤ S256x256.size a)
    (inq : ∀ a, (![0, q] : Fin 2 → ℕ) a + (![256, 1] : Fin 2 → ℕ) a ≤ S256x128.size a)
    (w : FVec Ideal S256x256 .bf16 → FVec Ideal S256x256 .bf16 → FVec Ideal S256x1 .f32) (hw : ∀ X H, w X H = k0_pay7 X H) :
    Col (aB B H) q ⟨Rect.unit (s := S256x128) ![0, q] ![256, 1] inq, w (ldX B o inb) (ldH H inb')⟩ := by
  rw [hw]
  exact col_of (aB B H) q hq' (k0_pay7 (F := Ideal) (ldX B o inb) (ldH H inb')) inq (aB_half0 B H o q ho hq inb inb' hq')

/-- A group's largest magnitude: the upper half of a segment. -/
theorem aB_half1 (B : FVec Ideal S256x5120 .bf16) (H : FVec Ideal S256x256 .bf16) (o q : ℕ) (ho : o % 256 = 0) (hq : q * 128 = o + 128)
    (inb : ∀ a, (![0, o] : Fin 2 → ℕ) a + (![256, 256] : Fin 2 → ℕ) a ≤ S256x5120.size a)
    (inb' : ∀ a, (![0, 0] : Fin 2 → ℕ) a + (![256, 256] : Fin 2 → ℕ) a ≤ S256x256.size a) (hq' : q < 128) (x : S256x1.Idx) :
    k0_pay8 (F := Ideal) (ldX B o inb) (ldH H inb') x = aB B H (ix2 (x 0) ⟨q, hq'⟩) := by
  have h5 : o + 256 ≤ 5120 := inb 1
  rw [pay8_at]
  unfold aB
  refine Finset.fold_congr fun k _ => ?_
  have hk : k.val < 128 := k.isLt
  rw [gB_piece5 B H o ho inb inb' (x 0) (128 + k.val) (by omega) (by omega)]
  have e : (⟨o + (128 + k.val), by omega⟩ : Fin 5120) = ⟨(q * 128 + k.val) % 5120, Nat.mod_lt _ (by decide)⟩ := Fin.ext (by simp only; omega)
  rw [e]
  rfl

theorem aB_piece1 (B : FVec Ideal S256x5120 .bf16) (H : FVec Ideal S256x256 .bf16) (o q : ℕ) (ho : o % 256 = 0) (hq : q * 128 = o + 128) (hq' : q < 128)
    (inb : ∀ a, (![0, o] : Fin 2 → ℕ) a + (![256, 256] : Fin 2 → ℕ) a ≤ S256x5120.size a)
    (inb' : ∀ a, (![0, 0] : Fin 2 → ℕ) a + (![256, 256] : Fin 2 → ℕ) a ≤ S256x256.size a)
    (inq : ∀ a, (![0, q] : Fin 2 → ℕ) a + (![256, 1] : Fin 2 → ℕ) a ≤ S256x128.size a)
    (w : FVec Ideal S256x256 .bf16 → FVec Ideal S256x256 .bf16 → FVec Ideal S256x1 .f32) (hw : ∀ X H, w X H = k0_pay8 X H) :
    Col (aB B H) q ⟨Rect.unit (s := S256x128) ![0, q] ![256, 1] inq, w (ldX B o inb) (ldH H inb')⟩ := by
  rw [hw]
  exact col_of (aB B H) q hq' (k0_pay8 (F := Ideal) (ldX B o inb) (ldH H inb')) inq (aB_half1 B H o q ho hq inb inb' hq')

variable (c : Dev nD) (i : grid0.Coords) (arg1 : Memref sig .tc .vmem S256x5120 .bf16) (harg1 : arg1.IsWhole) (arg2 : Memref sig .tc .vmem S256x256 .bf16) (harg2 : arg2.IsWhole) (arg3 : Memref sig .tc .vmem S128x5120 .bf16) (harg3 : arg3.IsWhole) (arg4 : Memref sig .tc .vmem S256x5120 .bf16) (harg4 : arg4.IsWhole) (arg5 : Memref sig .tc .vmem S256x5120 .fp8e4m3) (harg5 : arg5.IsWhole) (arg6 : Memref sig .tc .vmem S256x40 .f32) (harg6 : arg6.IsWhole) (arg7 : Memref sig .tc .vmem S256x5120 .f32) (harg7 : arg7.IsWhole) (arg8 : Memref sig .tc .vmem S256x128 .f32) (harg8 : arg8.IsWhole)
    (x0 : Vec Ideal S256x5120 .bf16) (x1 : Vec Ideal S256x256 .bf16) (x2 : Vec Ideal S128x5120 .bf16)

theorem g_pieces : View.PiecesOf (Val := Elt Ideal) (gB x0 x1) (kernelRun0_A (F := Ideal) c i arg1 harg1 arg2 harg2 arg3 harg3 arg4 harg4 arg5 harg5 arg6 harg6 arg7 harg7 arg8 harg8 x0 x1 x2).2.2.2.1 := by
  frame_open
  simp (disch := decide) only [View.readAt_eq_ld, Memref.IsWhole.read_unread]
  exact ⟨gB_piece x0 x1 4864 rfl _ _, gB_piece x0 x1 4608 rfl _ _, gB_piece x0 x1 4352 rfl _ _,
    gB_piece x0 x1 4096 rfl _ _, gB_piece x0 x1 3840 rfl _ _, gB_piece x0 x1 3584 rfl _ _,
    gB_piece x0 x1 3328 rfl _ _, gB_piece x0 x1 3072 rfl _ _, gB_piece x0 x1 2816 rfl _ _,
    gB_piece x0 x1 2560 rfl _ _, gB_piece x0 x1 2304 rfl _ _, gB_piece x0 x1 2048 rfl _ _,
    gB_piece x0 x1 1792 rfl _ _, gB_piece x0 x1 1536 rfl _ _, gB_piece x0 x1 1280 rfl _ _,
    gB_piece x0 x1 1024 rfl _ _, gB_piece x0 x1 768 rfl _ _, gB_piece x0 x1 512 rfl _ _,
    gB_piece x0 x1 256 rfl _ _, gB_piece x0 x1 0 rfl _ _, trivial⟩

theorem a_cols : Cols (aB x0 x1) 40 (kernelRun0_A (F := Ideal) c i arg1 harg1 arg2 harg2 arg3 harg3 arg4 harg4 arg5 harg5 arg6 harg6 arg7 harg7 arg8 harg8 x0 x1 x2).2.2.2.2.1 := by
  frame_open
  simp (disch := decide) only [View.readAt_eq_ld, Memref.IsWhole.read_unread]
  refine Cols.cons (n := 39) (aB_piece1 x0 x1 4864 39 rfl rfl (by decide) (by decide) (by decide) (by decide) (fun X H => shapeCast S256x1 (shapeCast S256x1 (multiReduction .maximumf [1] S256 (k0_pay101 (F := Ideal) X H) 0xFF800000#32 reduces_S256x128_S256 (.inl rfl) rfl) shapeCasts_S256_S256x1) shapeCasts_S256x1_S256x1) (fun _ _ => rfl)) ?_
  refine Cols.cons (n := 38) (aB_piece0 x0 x1 4864 38 rfl rfl (by decide) (by decide) (by decide) (by decide) (k0_pay100 (F := Ideal)) (fun _ _ => rfl)) ?_
  refine Cols.cons (n := 37) (aB_piece1 x0 x1 4608 37 rfl rfl (by decide) (by decide) (by decide) (by decide) (fun X H => k0_pay97 (F := Ideal) (k0_pay93 X H)) (fun _ _ => rfl)) ?_
  refine Cols.cons (n := 36) (aB_piece0 x0 x1 4608 36 rfl rfl (by decide) (by decide) (by decide) (by decide) (fun X H => k0_pay96 (F := Ideal) (k0_pay95 X H)) (fun _ _ => rfl)) ?_
  refine Cols.cons (n := 35) (aB_piece1 x0 x1 4352 35 rfl rfl (by decide) (by decide) (by decide) (by decide) (fun X H => k0_pay92 (F := Ideal) (k0_pay89 X H)) (fun _ _ => rfl)) ?_
  refine Cols.cons (n := 34) (aB_piece0 x0 x1 4352 34 rfl rfl (by decide) (by decide) (by decide) (by decide) (fun X H => k0_pay91 (F := Ideal) (k0_pay89 X H)) (fun _ _ => rfl)) ?_
  refine Cols.cons (n := 33) (aB_piece1 x0 x1 4096 33 rfl rfl (by decide) (by decide) (by decide) (by decide) (fun X H => k0_pay88 (F := Ideal) (k0_pay83 X H) (k0_pay84 X H) (FloatOps.ofBits FTy.f32 1070350890#32)) (fun _ _ => rfl)) ?_
  refine Cols.cons (n := 32) (aB_piece0 x0 x1 4096 32 rfl rfl (by decide) (by decide) (by decide) (by decide) (fun X H => k0_pay87 (F := Ideal) (k0_pay83 X H) (k0_pay84 X H) (FloatOps.ofBits FTy.f32 1070350890#32)) (fun _ _ => rfl)) ?_
  refine Cols.cons (n := 31) (aB_piece1 x0 x1 3840 31 rfl rfl (by decide) (by decide) (by decide) (by decide) (fun X H => k0_pay82 (F := Ideal) (k0_pay78 X) H) (fun _ _ => rfl)) ?_
  refine Cols.cons (n := 30) (aB_piece0 x0 x1 3840 30 rfl rfl (by decide) (by decide) (by decide) (by decide) (fun X H => k0_pay81 (F := Ideal) (k0_pay78 X) H) (fun _ _ => rfl)) ?_
  refine Cols.cons (n := 29) (aB_piece1 x0 x1 3584 29 rfl rfl (by decide) (by decide) (by decide) (by decide) (k0_pay77 (F := Ideal)) (fun _ _ => rfl)) ?_
  refine Cols.cons (n := 28) (aB_piece0 x0 x1 3584 28 rfl rfl (by decide) (by decide) (by decide) (by decide) (k0_pay76 (F := Ideal)) (fun _ _ => rfl)) ?_
  refine Cols.cons (n := 27) (aB_piece1 x0 x1 3328 27 rfl rfl (by decide) (by decide) (by decide) (by decide) (fun X H => k0_pay73 (F := Ideal) (k0_pay72 X H)) (fun _ _ => rfl)) ?_
  refine Cols.cons (n := 26) (aB_piece0 x0 x1 3328 26 rfl rfl (by decide) (by decide) (by decide) (by decide) (k0_pay71 (F := Ideal)) (fun _ _ => rfl)) ?_
  refine Cols.cons (n := 25) (aB_piece1 x0 x1 3072 25 rfl rfl (by decide) (by decide) (by decide) (by decide) (fun X H => k0_pay68 (F := Ideal) (k0_pay65 X H)) (fun _ _ => rfl)) ?_
  refine Cols.cons (n := 24) (aB_piece0 x0 x1 3072 24 rfl rfl (by decide) (by decide) (by decide) (by decide) (k0_pay67 (F := Ideal)) (fun _ _ => rfl)) ?_
  refine Cols.cons (n := 23) (aB_piece1 x0 x1 2816 23 rfl rfl (by decide) (by decide) (by decide) (by decide) (fun X H => k0_pay64 (F := Ideal) (k0_pay60 X H)) (fun _ _ => rfl)) ?_
  refine Cols.cons (n := 22) (aB_piece0 x0 x1 2816 22 rfl rfl (by decide) (by decide) (by decide) (by decide) (fun X H => k0_pay63 (F := Ideal) (k0_pay62 X H)) (fun _ _ => rfl)) ?_
  refine Cols.cons (n := 21) (aB_piece1 x0 x1 2560 21 rfl rfl (by decide) (by decide) (by decide) (by decide) (fun X H => k0_pay59 (F := Ideal) (k0_pay53 X H) (k0_pay54 X H) k0_pay55) (fun _ _ => rfl)) ?_
  refine Cols.cons (n := 20) (aB_piece0 x0 x1 2560 20 rfl rfl (by decide) (by decide) (by decide) (by decide) (fun X H => k0_pay58 (F := Ideal) (k0_pay53 X H) (k0_pay54 X H) k0_pay55) (fun _ _ => rfl)) ?_
  refine Cols.cons (n := 19) (aB_piece1 x0 x1 2304 19 rfl rfl (by decide) (by decide) (by decide) (by decide) (fun X H => k0_pay52 (F := Ideal) (k0_pay47 X H) (k0_pay48 X H) (Named.named κ "eight_a_c" 1049764473#32)) (fun _ _ => rfl)) ?_
  refine Cols.cons (n := 18) (aB_piece0 x0 x1 2304 18 rfl rfl (by decide) (by decide) (by decide) (by decide) (fun X H => k0_pay51 (F := Ideal) (k0_pay47 X H) (k0_pay48 X H) (Named.named κ "eight_a_c" 1049764473#32)) (fun _ _ => rfl)) ?_
  refine Cols.cons (n := 17) (aB_piece1 x0 x1 2048 17 rfl rfl (by decide) (by decide) (by decide) (by decide) (k0_pay46 (F := Ideal)) (fun _ _ => rfl)) ?_
  refine Cols.cons (n := 16) (aB_piece0 x0 x1 2048 16 rfl rfl (by decide) (by decide) (by decide) (by decide) (k0_pay45 (F := Ideal)) (fun _ _ => rfl)) ?_
  refine Cols.cons (n := 15) (aB_piece1 x0 x1 1792 15 rfl rfl (by decide) (by decide) (by decide) (by decide) (k0_pay42 (F := Ideal)) (fun _ _ => rfl)) ?_
  refine Cols.cons (n := 14) (aB_piece0 x0 x1 1792 14 rfl rfl (by decide) (by decide) (by decide) (by decide) (k0_pay41 (F := Ideal)) (fun _ _ => rfl)) ?_
  refine Cols.cons (n := 13) (aB_piece1 x0 x1 1536 13 rfl rfl (by decide) (by decide) (by decide) (by decide) (fun X H => k0_pay38 (F := Ideal) (k0_pay37 X H)) (fun _ _ => rfl)) ?_
  refine Cols.cons (n := 12) (aB_piece0 x0 x1 1536 12 rfl rfl (by decide) (by decide) (by decide) (by decide) (k0_pay36 (F := Ideal)) (fun _ _ => rfl)) ?_
  refine Cols.cons (n := 11) (aB_piece1 x0 x1 1280 11 rfl rfl (by decide) (by decide) (by decide) (by decide) (fun X H => k0_pay33 (F := Ideal) (k0_pay29 X H)) (fun _ _ => rfl)) ?_
  refine Cols.cons (n := 10) (aB_piece0 x0 x1 1280 10 rfl rfl (by decide) (by decide) (by decide) (by decide) (fun X H => k0_pay32 (F := Ideal) (k0_pay31 X H)) (fun _ _ => rfl)) ?_
  refine Cols.cons (n := 9) (aB_piece1 x0 x1 1024 9 rfl rfl (by decide) (by decide) (by decide) (by decide) (fun X H => k0_pay28 (F := Ideal) (k0_pay25 X H)) (fun _ _ => rfl)) ?_
  refine Cols.cons (n := 8) (aB_piece0 x0 x1 1024 8 rfl rfl (by decide) (by decide) (by decide) (by decide) (fun X H => k0_pay27 (F := Ideal) (k0_pay25 X H)) (fun _ _ => rfl)) ?_
  refine Cols.cons (n := 7) (aB_piece1 x0 x1 768 7 rfl rfl (by decide) (by decide) (by decide) (by decide) (fun X H => k0_pay24 (F := Ideal) (k0_pay19 X H) (k0_pay20 X H)) (fun _ _ => rfl)) ?_
  refine Cols.cons (n := 6) (aB_piece0 x0 x1 768 6 rfl rfl (by decide) (by decide) (by decide) (by decide) (fun X H => k0_pay23 (F := Ideal) (k0_pay19 X H) (k0_pay20 X H)) (fun _ _ => rfl)) ?_
  refine Cols.cons (n := 5) (aB_piece1 x0 x1 512 5 rfl rfl (by decide) (by decide) (by decide) (by decide) (fun X H => k0_pay18 (F := Ideal) (k0_pay13 X) (k0_pay14 H) (constant S256x256 FTy.f32 0#32)) (fun _ _ => rfl)) ?_
  refine Cols.cons (n := 4) (aB_piece0 x0 x1 512 4 rfl rfl (by decide) (by decide) (by decide) (by decide) (fun X H => k0_pay17 (F := Ideal) (k0_pay13 X) (k0_pay14 H) (constant S256x256 FTy.f32 0#32)) (fun _ _ => rfl)) ?_
  refine Cols.cons (n := 3) (aB_piece1 x0 x1 256 3 rfl rfl (by decide) (by decide) (by decide) (by decide) (k0_pay12 (F := Ideal)) (fun _ _ => rfl)) ?_
  refine Cols.cons (n := 2) (aB_piece0 x0 x1 256 2 rfl rfl (by decide) (by decide) (by decide) (by decide) (k0_pay11 (F := Ideal)) (fun _ _ => rfl)) ?_
  refine Cols.cons (n := 1) (aB_piece1 x0 x1 0 1 rfl rfl (by decide) (by decide) (by decide) (by decide) (k0_pay8 (F := Ideal)) (fun _ _ => rfl)) ?_
  refine Cols.cons (n := 0) (aB_piece0 x0 x1 0 0 rfl rfl (by decide) (by decide) (by decide) (by decide) (k0_pay7 (F := Ideal)) (fun _ _ => rfl)) ?_
  trivial
end Cert.KernelIdeal.Value
end
-- ==== Proof.Out.lean ====
/-
  What one block of the kernel leaves in its results, read over the extended reals.
-/
module

public import proofs.«01_k».proof.Defs
public import proofs.«01_k».proof.Proof.Gen.KernelIdeal.Frame
public import Idealize.ShloMosaic.Lib.Pipeline.ValueKit
public import Idealize.ShloMosaic.Lib.Pipeline.ReadBack
public import Idealize.ShloMosaic.Lib.Pointwise
public import proofs.«01_k».proof.Proof.Block
public import proofs.«01_k».proof.Proof.Exponent

@[expose] public section

set_option maxRecDepth 16384

noncomputable section
open Idealize.ShloMosaic Idealize.ShloMosaic.TcCoe Idealize.SL.Sem
namespace Cert.KernelIdeal.Value
open Cert.KernelIdeal Cert.KernelIdeal.Gen

open Cert.Exponent

/-- The scratch of largest magnitudes, as the body loads it. -/
abbrev ldA (A : S256x128.Idx → EReal) : FVec Ideal S256x128 .f32 := fun j => A ((Rect.unit (s := S256x128) ![0, 0] ![256, 128] inb_S256x128_S256x128_0_0).toLoadRect.idx j)

/-- A segment of 256 columns of the expanding matrix, and of the GELU scratch, as the kernel loads them. -/
abbrev ldE (E : FVec Ideal S128x5120 .bf16) (o : ℕ) (inb : ∀ a, (![0, o] : Fin 2 → ℕ) a + (![128, 256] : Fin 2 → ℕ) a ≤ S128x5120.size a) : FVec Ideal S128x256 .bf16 :=
  View.ld (S := S128x5120) (e' := .bf16) (Val := Elt Ideal) E (Rect.unit (s := S128x5120) ![0, o] ![128, 256] inb)
abbrev ldG (G : S256x5120.Idx → EReal) (o : ℕ) (inb : ∀ a, (![0, o] : Fin 2 → ℕ) a + (![256, 256] : Fin 2 → ℕ) a ≤ S256x5120.size a) : FVec Ideal S256x256 .f32 :=
  fun j => G ((Rect.unit (s := S256x5120) ![0, o] ![256, 256] inb).toLoadRect.idx j)

/-- A value of every group's column, spread over the columns of the block by the expanding matrix. -/
def spreadB (V : EReal → EReal) (A : S256x128.Idx → EReal) (E : FVec Ideal S128x5120 .bf16) (i : S256x5120.Idx) : EReal :=
  ∑ k : Fin 128, V (over (A (ix2 (i 0) k))) * E (ix2 k (i 1))

/-- The block's codes. -/
def cB (A : S256x128.Idx → EReal) (E : FVec Ideal S128x5120 .bf16) (G : S256x5120.Idx → EReal) (i : S256x5120.Idx) : EReal :=
  min (Ideal.ofBits .f32 0x43E00000#32) (max (Ideal.ofBits .f32 0xC3E00000#32) (G i * spreadB kinv A E i))

/-- The block's dequantised values. -/
def xB (A : S256x128.Idx → EReal) (E : FVec Ideal S128x5120 .bf16) (G : S256x5120.Idx → EReal) (i : S256x5120.Idx) : EReal :=
  cB A E G i * spreadB kscale A E i

theorem spread_piece (V : EReal → EReal) (A : S256x128.Idx → EReal) (E : FVec Ideal S128x5120 .bf16) (a : FVec Ideal S256x128 .bf16)
    (ha : ∀ j, a j = V (over (ldA A j))) (o : ℕ)
    (inb : ∀ a, (![0, o] : Fin 2 → ℕ) a + (![256, 256] : Fin 2 → ℕ) a ≤ S256x5120.size a)
    (inb' : ∀ a, (![0, o] : Fin 2 → ℕ) a + (![128, 256] : Fin 2 → ℕ) a ≤ S128x5120.size a) (x : S256x256.Idx) :
    ∑ k : Fin 128, a (ix2 (x 0) k) * ldE E o inb' (ix2 k (x 1)) = spreadB V A E ((Rect.unit (s := S256x5120) ![0, o] ![256, 256] inb).emb x) := by
  unfold spreadB
  refine Finset.sum_congr rfl fun k _ => ?_
  have e2 : ldE E o inb' (ix2 k (x 1)) = E _ := rfl
  rw [ha, e2]
  congr 1
  · refine congrArg V (congrArg over (congrArg A ?_))
    ext a; fin_cases a <;> simp [Rect.unit, LoadRect.idx, Rect.emb, Rect.toLoadRect]
  · refine congrArg E ?_
    ext a; fin_cases a <;> simp [Rect.unit, LoadRect.idx, Rect.emb, Rect.toLoadRect]

theorem cB_piece (A : S256x128.Idx → EReal) (E : FVec Ideal S128x5120 .bf16) (G : S256x5120.Idx → EReal) (o : ℕ)
    (inb : ∀ a, (![0, o] : Fin 2 → ℕ) a + (![256, 256] : Fin 2 → ℕ) a ≤ S256x5120.size a)
    (inb' : ∀ a, (![0, o] : Fin 2 → ℕ) a + (![128, 256] : Fin 2 → ℕ) a ≤ S128x5120.size a) (x : S256x256.Idx) :
    k0_pay2 (F := Ideal) (invOf (ldA A)) (ldE E o inb') (ldG G o inb) x = cB A E G ((Rect.unit (s := S256x5120) ![0, o] ![256, 256] inb).emb x) := by
  rw [pay2_at, spread_piece kinv A E (invOf (ldA A)) (fun j => invOf_at _ j) o inb inb' x]
  rfl

theorem xB_piece (A : S256x128.Idx → EReal) (E : FVec Ideal S128x5120 .bf16) (G : S256x5120.Idx → EReal) (o : ℕ)
    (inb : ∀ a, (![0, o] : Fin 2 → ℕ) a + (![256, 256] : Fin 2 → ℕ) a ≤ S256x5120.size a)
    (inb' : ∀ a, (![0, o] : Fin 2 → ℕ) a + (![128, 256] : Fin 2 → ℕ) a ≤ S128x5120.size a) (x : S256x256.Idx) :
    k0_pay3 (F := Ideal) (invOf (ldA A)) (scaleOf' (ldA A)) (ldE E o inb') (ldG G o inb) x = xB A E G ((Rect.unit (s := S256x5120) ![0, o] ![256, 256] inb).emb x) := by
  rw [pay3_at, cB_piece A E G o inb inb' x, spread_piece kscale A E (scaleOf' (ldA A)) (fun j => scaleOf'_at _ j) o inb inb' x]
  rfl

variable (c : Dev nD) (i : grid0.Coords) (arg1 : Memref sig .tc .vmem S256x5120 .bf16) (harg1 : arg1.IsWhole) (arg2 : Memref sig .tc .vmem S256x256 .bf16) (harg2 : arg2.IsWhole) (arg3 : Memref sig .tc .vmem S128x5120 .bf16) (harg3 : arg3.IsWhole) (arg4 : Memref sig .tc .vmem S256x5120 .bf16) (harg4 : arg4.IsWhole) (arg5 : Memref sig .tc .vmem S256x5120 .fp8e4m3) (harg5 : arg5.IsWhole) (arg6 : Memref sig .tc .vmem S256x40 .f32) (harg6 : arg6.IsWhole) (arg7 : Memref sig .tc .vmem S256x5120 .f32) (harg7 : arg7.IsWhole) (arg8 : Memref sig .tc .vmem S256x128 .f32) (harg8 : arg8.IsWhole)
    (x0 : Vec Ideal S256x5120 .bf16) (x1 : Vec Ideal S256x256 .bf16) (x2 : Vec Ideal S128x5120 .bf16)

theorem g_canon : View.canon (Val := Elt Ideal) (kernelRun0_A (F := Ideal) c i arg1 harg1 arg2 harg2 arg3 harg3 arg4 harg4 arg5 harg5 arg6 harg6 arg7 harg7 arg8 harg8 x0 x1 x2).2.2.2.1 = gB x0 x1 := by
  funext y
  have h := View.canon_append_of_piecesOf (Val := Elt Ideal) (gB x0 x1) [] _ (g_pieces c i arg1 harg1 arg2 harg2 arg3 harg3 arg4 harg4 arg5 harg5 arg6 harg6 arg7 harg7 arg8 harg8 x0 x1 x2) y
    (View.cover_of_tiledL (kernelRun0_A (F := Ideal) c i arg1 harg1 arg2 harg2 arg3 harg3 arg4 harg4 arg5 harg5 arg6 harg6 arg7 harg7 arg8 harg8 x0 x1 x2).2.2.2.1 S256x256.size (by sl_kernel_rfl) y)
  rwa [List.append_nil] at h

theorem a_canon (y : S256x128.Idx) (hy : (y 1).val < 40) : View.canon (Val := Elt Ideal) (kernelRun0_A (F := Ideal) c i arg1 harg1 arg2 harg2 arg3 harg3 arg4 harg4 arg5 harg5 arg6 harg6 arg7 harg7 arg8 harg8 x0 x1 x2).2.2.2.2.1 y = aB x0 x1 y :=
  Cols.canon (a_cols c i arg1 harg1 arg2 harg2 arg3 harg3 arg4 harg4 arg5 harg5 arg6 harg6 arg7 harg7 arg8 harg8 x0 x1 x2) y hy

theorem scale_pieces : ∃ A : S256x128.Idx → EReal, A = View.canon (Val := Elt Ideal) (kernelRun0_A (F := Ideal) c i arg1 harg1 arg2 harg2 arg3 harg3 arg4 harg4 arg5 harg5 arg6 harg6 arg7 harg7 arg8 harg8 x0 x1 x2).2.2.2.2.1 ∧
    (kernelRun0_A (F := Ideal) c i arg1 harg1 arg2 harg2 arg3 harg3 arg4 harg4 arg5 harg5 arg6 harg6 arg7 harg7 arg8 harg8 x0 x1 x2).2.2.1 = [⟨Rect.unit (s := S256x40) ![0, 0] ![256, 40] inb_S256x40_S256x40_0_0,
      k0_pay109 (k0_pay103 (F := Ideal) (ldA A)) (k0_pay104 (F := Ideal) (ldA A)) (k0_pay105 (F := Ideal) (ldA A)) (k0_pay106 (F := Ideal) (ldA A))⟩] := by
  obtain ⟨A, hA⟩ : ∃ A, View.canon (Val := Elt Ideal) (kernelRun0_A (F := Ideal) c i arg1 harg1 arg2 harg2 arg3 harg3 arg4 harg4 arg5 harg5 arg6 harg6 arg7 harg7 arg8 harg8 x0 x1 x2).2.2.2.2.1 = A := ⟨_, rfl⟩
  refine ⟨A, hA.symm, ?_⟩
  frame_open at hA
  simp (disch := decide) only [View.readAt_eq_ld, Memref.IsWhole.read_unread] at hA
  frame_open
  simp (disch := decide) only [View.readAt_eq_ld, Memref.IsWhole.read_unread, View.readCov_eq_canon', hA]
  clear hA
  rfl

theorem code_pieces (A : S256x128.Idx → EReal) (hA : View.canon (Val := Elt Ideal) (kernelRun0_A (F := Ideal) c i arg1 harg1 arg2 harg2 arg3 harg3 arg4 harg4 arg5 harg5 arg6 harg6 arg7 harg7 arg8 harg8 x0 x1 x2).2.2.2.2.1 = A)
    (G : S256x5120.Idx → EReal) (hG : View.canon (Val := Elt Ideal) (kernelRun0_A (F := Ideal) c i arg1 harg1 arg2 harg2 arg3 harg3 arg4 harg4 arg5 harg5 arg6 harg6 arg7 harg7 arg8 harg8 x0 x1 x2).2.2.2.1 = G) :
    View.PiecesOf (Val := Elt Ideal) (cB A x2 G) (kernelRun0_A (F := Ideal) c i arg1 harg1 arg2 harg2 arg3 harg3 arg4 harg4 arg5 harg5 arg6 harg6 arg7 harg7 arg8 harg8 x0 x1 x2).2.1 := by
  frame_open at hA
  simp (disch := decide) only [View.readAt_eq_ld, Memref.IsWhole.read_unread] at hA
  frame_open at hG
  simp (disch := decide) only [View.readAt_eq_ld, Memref.IsWhole.read_unread] at hG
  frame_open
  simp (disch := decide) only [View.readAt_eq_ld, Memref.IsWhole.read_unread, View.readCov_eq_canon', hA, hG]
  clear hA hG
  exact ⟨cB_piece A x2 G 4864 (by decide) (by decide), cB_piece A x2 G 4608 (by decide) (by decide), cB_piece A x2 G 4352 (by decide) (by decide),
    cB_piece A x2 G 4096 (by decide) (by decide), cB_piece A x2 G 3840 (by decide) (by decide), cB_piece A x2 G 3584 (by decide) (by decide),
    cB_piece A x2 G 3328 (by decide) (by decide), cB_piece A x2 G 3072 (by decide) (by decide), cB_piece A x2 G 2816 (by decide) (by decide),
    cB_piece A x2 G 2560 (by decide) (by decide), cB_piece A x2 G 2304 (by decide) (by decide), cB_piece A x2 G 2048 (by decide) (by decide),
    cB_piece A x2 G 1792 (by decide) (by decide), cB_piece A x2 G 1536 (by decide) (by decide), cB_piece A x2 G 1280 (by decide) (by decide),
    cB_piece A x2 G 1024 (by decide) (by decide), cB_piece A x2 G 768 (by decide) (by decide), cB_piece A x2 G 512 (by decide) (by decide),
    cB_piece A x2 G 256 (by decide) (by decide), cB_piece A x2 G 0 (by decide) (by decide), trivial⟩

theorem xhat_pieces (A : S256x128.Idx → EReal) (hA : View.canon (Val := Elt Ideal) (kernelRun0_A (F := Ideal) c i arg1 harg1 arg2 harg2 arg3 harg3 arg4 harg4 arg5 harg5 arg6 harg6 arg7 harg7 arg8 harg8 x0 x1 x2).2.2.2.2.1 = A)
    (G : S256x5120.Idx → EReal) (hG : View.canon (Val := Elt Ideal) (kernelRun0_A (F := Ideal) c i arg1 harg1 arg2 harg2 arg3 harg3 arg4 harg4 arg5 harg5 arg6 harg6 arg7 harg7 arg8 harg8 x0 x1 x2).2.2.2.1 = G) :
    View.PiecesOf (Val := Elt Ideal) (xB A x2 G) (kernelRun0_A (F := Ideal) c i arg1 harg1 arg2 harg2 arg3 harg3 arg4 harg4 arg5 harg5 arg6 harg6 arg7 harg7 arg8 harg8 x0 x1 x2).1 := by
  frame_open at hA
  simp (disch := decide) only [View.readAt_eq_ld, Memref.IsWhole.read_unread] at hA
  frame_open at hG
  simp (disch := decide) only [View.readAt_eq_ld, Memref.IsWhole.read_unread] at hG
  frame_open
  simp (disch := decide) only [View.readAt_eq_ld, Memref.IsWhole.read_unread, View.readCov_eq_canon', hA, hG]
  clear hA hG
  exact ⟨xB_piece A x2 G 4864 (by decide) (by decide), xB_piece A x2 G 4608 (by decide) (by decide), xB_piece A x2 G 4352 (by decide) (by decide),
    xB_piece A x2 G 4096 (by decide) (by decide), xB_piece A x2 G 3840 (by decide) (by decide), xB_piece A x2 G 3584 (by decide) (by decide),
    xB_piece A x2 G 3328 (by decide) (by decide), xB_piece A x2 G 3072 (by decide) (by decide), xB_piece A x2 G 2816 (by decide) (by decide),
    xB_piece A x2 G 2560 (by decide) (by decide), xB_piece A x2 G 2304 (by decide) (by decide), xB_piece A x2 G 2048 (by decide) (by decide),
    xB_piece A x2 G 1792 (by decide) (by decide), xB_piece A x2 G 1536 (by decide) (by decide), xB_piece A x2 G 1280 (by decide) (by decide),
    xB_piece A x2 G 1024 (by decide) (by decide), xB_piece A x2 G 768 (by decide) (by decide), xB_piece A x2 G 512 (by decide) (by decide),
    xB_piece A x2 G 256 (by decide) (by decide), xB_piece A x2 G 0 (by decide) (by decide), trivial⟩

end Cert.KernelIdeal.Value
end
-- ==== Proof.Gelu.lean ====
/-
  GELU over the reals: the kernel's form, which starts from half of x, equals the reference's, and neither grows x. Then
  the bounds of a group's ratio, which is what the search for the exponent needs.
-/
module

public import proofs.«01_k».proof.Proof.Payload

@[expose] public section

noncomputable section
open Idealize.ShloMosaic
namespace Cert.Gelu
open Cert.Exponent Cert.KernelIdeal.Value

/-! ## The constants -/

theorem c_half : Ideal.ofBits .f32 0x3F000000#32 = ((1 / 2 : ℝ) : EReal) := by
  simp [Ideal.ofBits, Ideal.ieee, -EReal.coe_mul]; norm_num

theorem c_half16 : Ideal.ofBits .bf16 0x3F00#16 = ((1 / 2 : ℝ) : EReal) := by
  simp [Ideal.ofBits, Ideal.ieee, -EReal.coe_mul]; norm_num

theorem c_a : Ideal.ofBits .f32 0x3D372713#32 = ((12003091 / 268435456 : ℝ) : EReal) := by
  simp [Ideal.ofBits, Ideal.ieee, -EReal.coe_mul]; norm_num

theorem c_c : Ideal.ofBits .f32 0x3F4C422A#32 = ((13386282 / 16777216 : ℝ) : EReal) := by
  simp [Ideal.ofBits, Ideal.ieee, -EReal.coe_mul]; norm_num

theorem c_2c : Ideal.ofBits .f32 0x3FCC422A#32 = ((13386282 / 8388608 : ℝ) : EReal) := by
  simp [Ideal.ofBits, Ideal.ieee, -EReal.coe_mul]; norm_num

theorem c_448 : Ideal.ofBits .f32 0x3B124925#32 = ((9586981 / 4294967296 : ℝ) : EReal) := by
  simp [Ideal.ofBits, Ideal.ieee, -EReal.coe_mul]; norm_num

theorem c_two : Ideal.ofBits .f32 0x40000000#32 = ((2 : ℝ) : EReal) := by
  simp [Ideal.ofBits, Ideal.ieee, -EReal.coe_mul]; norm_num

theorem c_max : Ideal.ofBits .f32 0x7F7F0000#32 = ((255 * 2 ^ 120 : ℝ) : EReal) := by
  simp [Ideal.ofBits, Ideal.ieee, -EReal.coe_mul]; norm_num

theorem c_bot : Ideal.ofBits .f32 0xFF800000#32 = ⊥ := by
  simp [Ideal.ofBits, Ideal.ieee]

theorem c_8ac : Named.named (F := Ideal) Cert.KernelIdeal.κ "eight_a_c" (φ := .f32) 0x3E922279#32 = ((80338380498831 / 281474976710656 : ℝ) : EReal) :=
  IdealRules.named_const.ideal_named_scalar _ _ _ _ rfl

/-! ## GELU -/

/-- GELU of x, as the reference computes it. -/
def ge (x : EReal) : EReal :=
  Ideal.ofBits .f32 0x3F000000#32 * x * (1 + Ideal.tanh (Ideal.ofBits .f32 0x3F4C422A#32 * (x + Ideal.ofBits .f32 0x3D372713#32 * x * x * x)))

/-- The same over the reals. -/
def geR (x : ℝ) : ℝ := 1 / 2 * x * (1 + Real.tanh (13386282 / 16777216 * (x + 12003091 / 268435456 * x * x * x)))

theorem ge_coe (x : ℝ) : ge (x : EReal) = (geR x : EReal) := by
  unfold ge geR
  rw [c_half, c_a, c_c]
  simp only [← EReal.coe_mul, ← EReal.coe_add, Ideal.tanh_coe, ← EReal.coe_one]

theorem gk_coe (x : ℝ) : gk ((x : EReal) * ((1 / 2 : ℝ) : EReal)) = ge (x : EReal) := by
  rw [ge_coe]
  unfold gk geR
  rw [c_8ac, c_2c]
  simp only [← EReal.coe_mul, ← EReal.coe_add, Ideal.tanh_coe, ← EReal.coe_one]
  congr 1
  have e : x * (1 / 2) * (x * (1 / 2) * (x * (1 / 2)) * (80338380498831 / 281474976710656) + 13386282 / 8388608)
      = 13386282 / 16777216 * (x + 12003091 / 268435456 * x * x * x) := by ring
  rw [e]
  ring

theorem geR_abs (x : ℝ) : |geR x| ≤ |x| := by
  unfold geR
  set t := Real.tanh (13386282 / 16777216 * (x + 12003091 / 268435456 * x * x * x))
  have h1 : -1 < t := Real.neg_one_lt_tanh _
  have h2 : t < 1 := Real.tanh_lt_one _
  rw [abs_mul, abs_mul]
  have h3 : |1 + t| ≤ 2 := abs_le.mpr ⟨by linarith, by linarith⟩
  have h4 := abs_nonneg x
  have h5 : |(1 / 2 : ℝ)| = 1 / 2 := abs_of_pos (by norm_num)
  rw [h5]
  nlinarith

theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

theorem absf_coe (r : ℝ) : FloatOps.absf (F := Ideal) (φ := .f32) (r : EReal) = ((|r| : ℝ) : EReal) := by
  show max (r : EReal) (-(r : EReal)) = _
  rw [← EReal.coe_neg, max_coe]
  rfl

/-! ## A group's ratio -/

/-- The largest magnitude of a group's GELU. -/
def tp (f : Fin 128 → EReal) : EReal :=
  Finset.univ.fold max (Ideal.ofBits .f32 0xFF800000#32) fun k => FloatOps.absf (F := Ideal) (φ := .f32) (ge (f k))

/-- Every entry is a real number, at most the largest finite bf16 in magnitude. -/
def Fine (x : EReal) : Prop := ∃ r : ℝ, x = r ∧ |r| ≤ 255 * 2 ^ 120

theorem tp_bounds (f : Fin 128 → EReal) (h : ∀ k, Fine (f k)) : 0 ≤ tp f ∧ tp f ≤ ((255 * 2 ^ 120 : ℝ) : EReal) := by
  unfold tp
  rw [c_bot]
  constructor
  · rw [Finset.le_fold_max]
    right
    obtain ⟨r, e, -⟩ := h 0
    refine ⟨0, Finset.mem_univ _, ?_⟩
    rw [e, ge_coe, absf_coe]
    exact EReal.coe_nonneg.mpr (abs_nonneg _)
  · rw [Finset.fold_max_le]
    refine ⟨bot_le, fun k _ => ?_⟩
    obtain ⟨r, e, hr⟩ := h k
    rw [e, ge_coe, absf_coe]
    exact EReal.coe_le_coe_iff.mpr ((geR_abs r).trans hr)

theorem over_bounds (f : Fin 128 → EReal) (h : ∀ k, Fine (f k)) : 0 ≤ over (tp f) ∧ over (tp f) < pwr 247 := by
  obtain ⟨h0, h1⟩ := tp_bounds f h
  have hb : tp f ≠ ⊥ := fun e => by rw [e] at h0; exact absurd h0 (by simp)
  have ht : tp f ≠ ⊤ := fun e => by rw [e] at h1; exact absurd (top_le_iff.mp h1) (EReal.coe_ne_top _)
  lift tp f to ℝ using ⟨ht, hb⟩ with r
  have r0 : 0 ≤ r := EReal.coe_nonneg.mp h0
  have r1 : r ≤ 255 * 2 ^ 120 := EReal.coe_le_coe_iff.mp h1
  unfold over
  rw [c_448, pwr_of (by decide) (by decide), ← EReal.coe_mul]
  refine ⟨EReal.coe_nonneg.mpr (by positivity), EReal.coe_lt_coe_iff.mpr ?_⟩
  norm_num
  norm_num at r1
  linarith

/-- A magnitude no larger than the largest finite bf16 is a real number's. -/
theorem fine_of_le (x : EReal) (h : max x (-x) ≤ Ideal.ofBits .f32 0x7F7F0000#32) : Fine x := by
  rw [c_max] at h
  have hb : x ≠ ⊥ := fun e => by
    rw [e, EReal.neg_bot, max_eq_right bot_le] at h
    exact absurd (top_le_iff.mp h) (EReal.coe_ne_top _)
  have ht : x ≠ ⊤ := fun e => by
    rw [e, max_eq_left le_top] at h
    exact absurd (top_le_iff.mp h) (EReal.coe_ne_top _)
  lift x to ℝ using ⟨ht, hb⟩
  rw [← EReal.coe_neg, max_coe, EReal.coe_le_coe_iff] at h
  exact ⟨x, rfl, h⟩

end Cert.Gelu
end
-- ==== Proof.Spec.lean ====
/-
  The results both programs end with, entry by entry, as functions of the argument.
-/
module

public import proofs.«01_k».proof.Proof.Gelu

@[expose] public section

noncomputable section
open Idealize.ShloMosaic
namespace Cert.Spec
open Cert.Exponent Cert.KernelIdeal.Value Cert.Gelu

/-- The argument's shape. -/
abbrev SX : Shape := ⟨3, ![16, 1024, 5120]⟩

variable (X : SX.Idx → EReal)

/-- The argument as 16384 rows. -/
def row (r : Fin 16384) (c : Fin 5120) : EReal :=
  X (ix3 ⟨r.val / 1024, by have := r.isLt; omega⟩ ⟨r.val % 1024, Nat.mod_lt _ (by decide)⟩ c)

/-- A group of 128 entries of a row. -/
def grp (r : Fin 16384) (g : Fin 40) (k : Fin 128) : EReal :=
  row X r ⟨g.val * 128 + k.val, by have := g.isLt; have := k.isLt; omega⟩

/-- A group's ratio: its largest magnitude over 448. -/
def ratioV (r : Fin 16384) (g : Fin 40) : EReal := over (tp (grp X r g))

/-- The group of a column. -/
def gof (c : Fin 5120) : Fin 40 := ⟨c.val / 128, by have := c.isLt; omega⟩

def scaleV (r : Fin 16384) (g : Fin 40) : EReal := kscale (ratioV X r g)

def codeV (r : Fin 16384) (c : Fin 5120) : EReal :=
  min (Ideal.ofBits .f32 0x43E00000#32) (max (Ideal.ofBits .f32 0xC3E00000#32) (ge (row X r c) * kinv (ratioV X r (gof c))))

def hatV (r : Fin 16384) (c : Fin 5120) : EReal := codeV X r c * scaleV X r (gof c)

theorem ratio_field (h : ∀ i, Fine (X i)) (r : Fin 16384) (g : Fin 40) :
    ∃ n, field (ratioV X r g) = BitVec.ofNat 32 n ∧ IsField (ratioV X r g) n := by
  obtain ⟨h0, h1⟩ := over_bounds (grp X r g) fun k => h _
  exact field_spec _ h0 h1

end Cert.Spec
end
-- ==== Proof.KernelArray.lean ====
/-
  What the kernel's host operations hand to its one kernel call: the argument as rows, the matrix that halves, and the
  matrix that spreads a number of each group over the group's columns.
-/
module

public import proofs.«01_k».proof.Defs
public import proofs.«01_k».proof.Proof.Gen.KernelIdeal.Value
public import Idealize.ShloMosaic.Lib.Pipeline.ValueKit
public import Idealize.ShloMosaic.Lib.Pointwise
public import Idealize.ShloMosaic.Lib.Claim
public import Idealize.ShloMosaic.Lib.StableHlo.RunRead
public import proofs.«01_k».proof.Proof.Spec

@[expose] public section

set_option maxRecDepth 16384

noncomputable section
open Idealize.ShloMosaic Idealize.ShloMosaic.TcCoe Idealize.SL.Sem
open Idealize.ShloMosaic.Pipeline (Dat)
open Idealize.ShloMosaic.StableHlo
namespace Cert.KernelIdeal.Value
open Cert.KernelIdeal Cert.KernelIdeal.Gen
variable (m : (ℓ : Loc nD τ sig) → Buf (Elt Ideal) ℓ)

/-- Half the identity. -/
def halfM : FVec Ideal S256x256 .bf16 :=
  mulf (broadcastInDim S256x256 ![] bcast_S_S256x256 (constant S_ .bf16 0x3F00#16))
    (uitofp .bf16 (cmpi .eq (addi (iotaInDim S256x256 32 0) (broadcastInDim S256x256 ![] bcast_S_S256x256 (constantI S_ 32 0#32))) (iotaInDim S256x256 32 1)))

/-- The first 40 rows of the identity, each entry repeated 128 times. -/
def spreadM : FVec Ideal S128x5120 .bf16 :=
  shapeCast S128x5120
    (broadcastInDim S128x40x128 ![0, 1] bcast_S128x40_S128x40x128_0_1
      (extractStridedSlice S128x40 ![0, 0]
        (uitofp (F := Ideal) .bf16 (cmpi .eq (addi (iotaInDim S128x128 32 0) (broadcastInDim S128x128 ![] bcast_S_S128x128 (constantI S_ 32 0#32))) (iotaInDim S128x128 32 1)))
        slices_S128x128_S128x40_0_0))
    shapeCasts_S128x40x128_S128x5120

theorem V_v0 (c : Dev nD) : V m c main_v0 = (shapeCast S16384x5120 (m ((c : Thread nD τ).loc main_arg0) : FVec Ideal S16x1024x5120 .bf16) shapeCasts_S16x1024x5120_S16384x5120 : FVec Ideal S16384x5120 .bf16) := by
  after_reads_simp
  rfl

theorem V_v8 (c : Dev nD) : V m c main_v8 = halfM := by
  after_reads_simp
  unfold halfM
  rfl

theorem V_v17 (c : Dev nD) : V m c main_v17 = spreadM := by
  after_reads_simp
  unfold spreadM
  rfl

/-- One where two small numbers are equal, zero elsewhere: a comparison of them as words, read as a number. -/
theorem same_word {a b : ℕ} (ha : a < 2 ^ 32) (hb : b < 2 ^ 32) :
    (FloatOps.uitofp (F := Ideal) .bf16 (IntOp.cmpi .eq (IntOp.addi (BitVec.ofNat 32 a) 0#32) (BitVec.ofNat 32 b)) : EReal) = if a = b then 1 else 0 := by
  have h0 : IntOp.addi (BitVec.ofNat 32 a) 0#32 = BitVec.ofNat 32 a := by simp [IntOp.addi]
  rw [h0]
  by_cases h : a = b
  · rw [if_pos h, h, IntOp.cmpi_eq_self]
    show ((((1#1 : BitVec 1).toNat : ℝ)) : EReal) = 1
    simp
  · have hn : BitVec.ofNat 32 a ≠ BitVec.ofNat 32 b := fun e => h (by
      have e' := congrArg BitVec.toNat e
      rwa [BitVec.toNat_ofNat, BitVec.toNat_ofNat, Nat.mod_eq_of_lt ha, Nat.mod_eq_of_lt hb] at e')
    have hc : IntOp.cmpi CmpIPredicate.eq (BitVec.ofNat 32 a) (BitVec.ofNat 32 b) = 0#1 := by
      show BitVec.ofBool (BitVec.ofNat 32 a == BitVec.ofNat 32 b) = 0#1
      rw [beq_eq_false_iff_ne.mpr hn]
      rfl
    rw [if_neg h, hc]
    show ((((0#1 : BitVec 1).toNat : ℝ)) : EReal) = 0
    simp

theorem rows_at (X : FVec Ideal S16x1024x5120 .bf16) (r : Fin 16384) (l : Fin 5120) :
    shapeCast S16384x5120 X shapeCasts_S16x1024x5120_S16384x5120 (ix2 r l) = Cert.Spec.row X r l := by
  unfold Cert.Spec.row
  pointwise

theorem halfM_at (k l : Fin 256) : halfM (ix2 k l) = if k = l then Ideal.ofBits .bf16 0x3F00#16 else 0 := by
  pointwise [halfM]
  rw [same_word (by have := k.isLt; omega) (by have := l.isLt; omega)]
  by_cases h : k = l
  · rw [if_pos h, if_pos (congrArg Fin.val h), mul_one]
  · rw [if_neg h, if_neg fun e => h (Fin.ext e), mul_zero]

theorem spreadM_at (k : Fin 128) (l : Fin 5120) : spreadM (ix2 k l) = if k.val = l.val / 128 then 1 else 0 := by
  pointwise [spreadM]
  exact same_word (by have := k.isLt; omega) (by have := l.isLt; omega)

end Cert.KernelIdeal.Value
end
-- ==== Proof.BlockValue.lean ====
/-
  What one block of the kernel leaves in its results, from the rows of the argument it reads: the entries both programs
  end with.
-/
module

public import proofs.«01_k».proof.Proof.Out
public import proofs.«01_k».proof.Proof.KernelArray

@[expose] public section

set_option maxRecDepth 16384

noncomputable section
open Idealize.ShloMosaic Idealize.ShloMosaic.TcCoe Idealize.SL.Sem
namespace Cert.KernelIdeal.Value
open Cert.KernelIdeal Cert.KernelIdeal.Gen
open Cert.Exponent Cert.Spec Cert.Gelu

section Pure
variable (X : SX.Idx → EReal) (hX : ∀ i, Fine (X i)) (ρ : Fin 256 → Fin 16384)
  (x0 : FVec Ideal S256x5120 .bf16) (x1 : FVec Ideal S256x256 .bf16) (x2 : FVec Ideal S128x5120 .bf16)
  (h0 : ∀ r l, x0 (ix2 r l) = row X (ρ r) l) (h1 : x1 = halfM) (h2 : x2 = spreadM)
include h1 in
/-- The product with half the identity halves. -/
theorem hB_at (r : Fin 256) (l : Fin 5120) : hB x0 x1 (ix2 r l) = x0 (ix2 r l) * Ideal.ofBits .bf16 0x3F00#16 := by
  subst h1
  have e : hB x0 halfM (ix2 r l) = ∑ k : Fin 256, x0 (ix2 r ⟨l.val / 256 * 256 + k.val, by have := l.isLt; omega⟩) * halfM (ix2 k ⟨l.val % 256, Nat.mod_lt _ (by decide)⟩) := rfl
  rw [e, Finset.sum_eq_single (⟨l.val % 256, Nat.mod_lt _ (by decide)⟩ : Fin 256)]
  · rw [halfM_at, if_pos rfl]
    refine congrArg (fun v => x0 (ix2 r v) * _) (Fin.ext ?_)
    show l.val / 256 * 256 + l.val % 256 = l.val
    omega
  · intro k _ hk
    rw [halfM_at, if_neg, mul_zero]
    exact hk
  · exact fun h => absurd (Finset.mem_univ _) h

include hX h0 h1 in
theorem gB_at (r : Fin 256) (l : Fin 5120) : gB x0 x1 (ix2 r l) = ge (row X (ρ r) l) := by
  unfold gB
  rw [hB_at x0 x1 h1, h0, c_half16]
  obtain ⟨v, hv, _⟩ := hX (ix3 ⟨(ρ r).val / 1024, by have := (ρ r).isLt; omega⟩ ⟨(ρ r).val % 1024, Nat.mod_lt _ (by decide)⟩ l)
  have hv' : row X (ρ r) l = (v : EReal) := hv
  rw [hv']
  exact gk_coe v

include hX h0 h1 in
theorem aB_at (r : Fin 256) (g : Fin 40) : aB x0 x1 (ix2 r ⟨g.val, by have := g.isLt; omega⟩) = tp (grp X (ρ r) g) := by
  unfold aB tp
  refine congrArg (Finset.univ.fold max (Ideal.ofBits .f32 0xFF800000#32)) (funext fun k => congrArg _ ?_)
  have e : (⟨(g.val * 128 + k.val) % 5120, Nat.mod_lt _ (by decide)⟩ : Fin 5120) = ⟨g.val * 128 + k.val, by have := g.isLt; have := k.isLt; omega⟩ :=
    Fin.ext (Nat.mod_eq_of_lt (by have := g.isLt; have := k.isLt; omega))
  show gB x0 x1 (ix2 r (⟨(g.val * 128 + k.val) % 5120, Nat.mod_lt _ (by decide)⟩ : Fin 5120)) = ge (grp X (ρ r) g k)
  rw [e]
  exact gB_at X hX ρ x0 x1 h0 h1 r _

variable (A : S256x128.Idx → EReal) (hA : ∀ y : S256x128.Idx, (y 1).val < 40 → A y = aB x0 x1 y)

include hX h0 h1 hA in
theorem over_A (r : Fin 256) (g : Fin 40) : over (A (ix2 r ⟨g.val, by have := g.isLt; omega⟩)) = ratioV X (ρ r) g := by
  rw [hA _ g.isLt, aB_at X hX ρ x0 x1 h0 h1 r g]
  rfl

include hX h0 h1 h2 hA in
/-- The product with the spreading matrix puts a group's number at the group's columns. -/
theorem spreadB_at (V : EReal → EReal) (r : Fin 256) (l : Fin 5120) : spreadB V A x2 (ix2 r l) = V (ratioV X (ρ r) (gof l)) := by
  subst h2
  have e : spreadB V A spreadM (ix2 r l) = ∑ k : Fin 128, V (over (A (ix2 r k))) * spreadM (ix2 k l) := rfl
  rw [e, Finset.sum_eq_single (⟨l.val / 128, by have := l.isLt; omega⟩ : Fin 128)]
  · rw [spreadM_at, if_pos rfl, mul_one]
    exact congrArg V (over_A X hX ρ x0 x1 h0 h1 A hA r (gof l))
  · intro k _ hk
    rw [spreadM_at, if_neg, mul_zero]
    exact fun e => hk (Fin.ext e)
  · exact fun h => absurd (Finset.mem_univ _) h

include hX h0 h1 h2 hA in
theorem cB_at (r : Fin 256) (l : Fin 5120) : cB A x2 (gB x0 x1) (ix2 r l) = codeV X (ρ r) l := by
  unfold cB codeV
  rw [gB_at X hX ρ x0 x1 h0 h1, spreadB_at X hX ρ x0 x1 x2 h0 h1 h2 A hA]

include hX h0 h1 h2 hA in
theorem xB_at (r : Fin 256) (l : Fin 5120) : xB A x2 (gB x0 x1) (ix2 r l) = hatV X (ρ r) l := by
  unfold xB hatV
  rw [cB_at X hX ρ x0 x1 x2 h0 h1 h2 A hA, spreadB_at X hX ρ x0 x1 x2 h0 h1 h2 A hA]
  rfl

include hX h0 h1 hA in
theorem scale_store (r : Fin 256) (g : Fin 40) :
    k0_pay109 (k0_pay103 (F := Ideal) (ldA A)) (k0_pay104 (F := Ideal) (ldA A)) (k0_pay105 (F := Ideal) (ldA A)) (k0_pay106 (F := Ideal) (ldA A)) (ix2 r g) = scaleV X (ρ r) g := by
  have e : k0_pay109 (k0_pay103 (F := Ideal) (ldA A)) (k0_pay104 (F := Ideal) (ldA A)) (k0_pay105 (F := Ideal) (ldA A)) (k0_pay106 (F := Ideal) (ldA A)) (ix2 r g)
      = scaleOf (ldA A) (ix2 r ⟨g.val, by have := g.isLt; omega⟩) := by
    unfold k0_pay109
    refine congrArg (scaleOf (ldA A)) ?_
    funext a
    match a with
    | 0 => exact Fin.ext (by simp)
    | 1 => exact Fin.ext (by simp)
  rw [e, scaleOf_at]
  unfold scaleV
  rw [← over_A X hX ρ x0 x1 h0 h1 A hA r g]
  refine congrArg kscale (congrArg over (congrArg A ?_))
  funext a
  match a with
  | 0 => exact Fin.ext (by simp)
  | 1 => exact Fin.ext (by simp)
end Pure

section Stores
variable (c : Dev nD) (i : grid0.Coords) (arg1 : Memref sig .tc .vmem S256x5120 .bf16) (harg1 : arg1.IsWhole) (arg2 : Memref sig .tc .vmem S256x256 .bf16) (harg2 : arg2.IsWhole) (arg3 : Memref sig .tc .vmem S128x5120 .bf16) (harg3 : arg3.IsWhole) (arg4 : Memref sig .tc .vmem S256x5120 .bf16) (harg4 : arg4.IsWhole) (arg5 : Memref sig .tc .vmem S256x5120 .fp8e4m3) (harg5 : arg5.IsWhole) (arg6 : Memref sig .tc .vmem S256x40 .f32) (harg6 : arg6.IsWhole) (arg7 : Memref sig .tc .vmem S256x5120 .f32) (harg7 : arg7.IsWhole) (arg8 : Memref sig .tc .vmem S256x128 .f32) (harg8 : arg8.IsWhole)
    (x0 : Vec Ideal S256x5120 .bf16) (x1 : Vec Ideal S256x256 .bf16) (x2 : Vec Ideal S128x5120 .bf16)
  (X : SX.Idx → EReal) (hX : ∀ i, Fine (X i)) (ρ : Fin 256 → Fin 16384)
  (h0 : ∀ r l, x0 (ix2 r l) = row X (ρ r) l) (h1 : x1 = halfM) (h2 : x2 = spreadM)

include hX h0 h1 h2 in
theorem out3_at (y : S256x5120.Idx) : (out0_A_3 (F := Ideal) c i arg1 harg1 arg2 harg2 arg3 harg3 arg4 harg4 arg5 harg5 arg6 harg6 arg7 harg7 arg8 harg8 x0 x1 x2) y = hatV X (ρ (y 0)) (y 1) := by
  unfold out0_A_3
  rw [View.read_writes_junk_eq_canon]
  obtain ⟨A, hA⟩ : ∃ A, View.canon (Val := Elt Ideal) (kernelRun0_A (F := Ideal) c i arg1 harg1 arg2 harg2 arg3 harg3 arg4 harg4 arg5 harg5 arg6 harg6 arg7 harg7 arg8 harg8 x0 x1 x2).2.2.2.2.1 = A := ⟨_, rfl⟩
  have hA' : ∀ y : S256x128.Idx, (y 1).val < 40 → A y = aB x0 x1 y := fun y hy => by
    rw [← hA]
    exact a_canon c i arg1 harg1 arg2 harg2 arg3 harg3 arg4 harg4 arg5 harg5 arg6 harg6 arg7 harg7 arg8 harg8 x0 x1 x2 y hy
  have h := View.canon_append_of_piecesOf (Val := Elt Ideal) _ [] _ (xhat_pieces c i arg1 harg1 arg2 harg2 arg3 harg3 arg4 harg4 arg5 harg5 arg6 harg6 arg7 harg7 arg8 harg8 x0 x1 x2 A hA _ (g_canon c i arg1 harg1 arg2 harg2 arg3 harg3 arg4 harg4 arg5 harg5 arg6 harg6 arg7 harg7 arg8 harg8 x0 x1 x2)) y
    (cover0_A_3 c i arg1 harg1 arg2 harg2 arg3 harg3 arg4 harg4 arg5 harg5 arg6 harg6 arg7 harg7 arg8 harg8 x0 x1 x2 y)
  rw [List.append_nil] at h
  rw [h]
  have e := xB_at X hX ρ x0 x1 x2 h0 h1 h2 A hA' (y 0) (y 1)
  have ey : (ix2 (y 0) (y 1) : S256x5120.Idx) = y := by funext a; match a with | 0 => rfl | 1 => rfl
  rw [ey] at e
  exact e

include hX h0 h1 h2 in
theorem out4_at (y : S256x5120.Idx) : (out0_A_4 (F := Ideal) c i arg1 harg1 arg2 harg2 arg3 harg3 arg4 harg4 arg5 harg5 arg6 harg6 arg7 harg7 arg8 harg8 x0 x1 x2) y = codeV X (ρ (y 0)) (y 1) := by
  unfold out0_A_4
  rw [View.read_writes_junk_eq_canon]
  obtain ⟨A, hA⟩ : ∃ A, View.canon (Val := Elt Ideal) (kernelRun0_A (F := Ideal) c i arg1 harg1 arg2 harg2 arg3 harg3 arg4 harg4 arg5 harg5 arg6 harg6 arg7 harg7 arg8 harg8 x0 x1 x2).2.2.2.2.1 = A := ⟨_, rfl⟩
  have hA' : ∀ y : S256x128.Idx, (y 1).val < 40 → A y = aB x0 x1 y := fun y hy => by
    rw [← hA]
    exact a_canon c i arg1 harg1 arg2 harg2 arg3 harg3 arg4 harg4 arg5 harg5 arg6 harg6 arg7 harg7 arg8 harg8 x0 x1 x2 y hy
  have h := View.canon_append_of_piecesOf (Val := Elt Ideal) _ [] _ (code_pieces c i arg1 harg1 arg2 harg2 arg3 harg3 arg4 harg4 arg5 harg5 arg6 harg6 arg7 harg7 arg8 harg8 x0 x1 x2 A hA _ (g_canon c i arg1 harg1 arg2 harg2 arg3 harg3 arg4 harg4 arg5 harg5 arg6 harg6 arg7 harg7 arg8 harg8 x0 x1 x2)) y
    (cover0_A_4 c i arg1 harg1 arg2 harg2 arg3 harg3 arg4 harg4 arg5 harg5 arg6 harg6 arg7 harg7 arg8 harg8 x0 x1 x2 y)
  rw [List.append_nil] at h
  rw [h]
  have e := cB_at X hX ρ x0 x1 x2 h0 h1 h2 A hA' (y 0) (y 1)
  have ey : (ix2 (y 0) (y 1) : S256x5120.Idx) = y := by funext a; match a with | 0 => rfl | 1 => rfl
  rw [ey] at e
  exact e

include hX h0 h1 in
theorem out5_at (y : S256x40.Idx) : (out0_A_5 (F := Ideal) c i arg1 harg1 arg2 harg2 arg3 harg3 arg4 harg4 arg5 harg5 arg6 harg6 arg7 harg7 arg8 harg8 x0 x1 x2) y = scaleV X (ρ (y 0)) (y 1) := by
  unfold out0_A_5
  rw [View.read_writes_junk_eq_canon]
  obtain ⟨A, hA, hL⟩ := scale_pieces c i arg1 harg1 arg2 harg2 arg3 harg3 arg4 harg4 arg5 harg5 arg6 harg6 arg7 harg7 arg8 harg8 x0 x1 x2
  have hA' : ∀ y : S256x128.Idx, (y 1).val < 40 → A y = aB x0 x1 y := fun y hy => by
    rw [hA]
    exact a_canon c i arg1 harg1 arg2 harg2 arg3 harg3 arg4 harg4 arg5 harg5 arg6 harg6 arg7 harg7 arg8 harg8 x0 x1 x2 y hy
  rw [hL, View.canon_cons_unit_lit' inb_S256x40_S256x40_0_0 _ [] (fun a => by fin_cases a <;> rfl)]
  have e := scale_store X hX ρ x0 x1 h0 h1 A hA' (y 0) (y 1)
  have ey : (ix2 (y 0) (y 1) : S256x40.Idx) = y := by funext a; match a with | 0 => rfl | 1 => rfl
  rw [ey] at e
  exact e
end Stores

end Cert.KernelIdeal.Value
end
-- ==== Proof.KernelFinal.lean ====
/-
  The kernel's three result arrays after its run, entry by entry.
-/
module

public import proofs.«01_k».proof.Proof.BlockValue

@[expose] public section

set_option maxRecDepth 16384

noncomputable section
open Idealize.ShloMosaic Idealize.ShloMosaic.TcCoe Idealize.SL.Sem
open Idealize.ShloMosaic.Pipeline (Dat)
namespace Cert.KernelIdeal.Value
open Cert.KernelIdeal Cert.KernelIdeal.Gen
open Cert.Exponent Cert.Spec Cert.Gelu
variable (m : (ℓ : Loc nD τ sig) → Buf (Elt Ideal) ℓ)

/-- Where each window's block sits at every grid point. -/
theorem idx : ∀ t : Fin cfg0.N, win0_0.index t = ![t.val, 0] ∧ win0_1.index t = ![0, 0] ∧ win0_2.index t = ![0, 0] ∧ win0_3.index t = ![t.val, 0]
    ∧ win0_4.index t = ![t.val, 0] ∧ win0_5.index t = ![t.val, 0] ∧ t.val < 64 :=
  (by decide +kernel : ∀ t : Fin grid0.N, _)

/-- The argument. -/
abbrev argX (c : Dev nD) : SX.Idx → EReal := (m ((c : Thread nD τ).loc main_arg0) : FVec Ideal S16x1024x5120 .bf16)

/-- The row of the argument that a row of a block is. -/
def rowOf (t : Fin cfg0.N) (r : Fin 256) : Fin 16384 := ⟨t.val * 256 + r.val, by have := r.isLt; have := (idx t).2.2.2.2.2.2; omega⟩

theorem iblk0 (c : Dev nD) (t : Fin cfg0.N) (r : Fin 256) (l : Fin 5120) :
    (show FVec Ideal S256x5120 .bf16 from iblk m c 0 t) (ix2 r l) = row (argX m c) (rowOf t r) l := by
  have e : ((cfg0.win 0).blk t).view.emb (ix2 r l : S256x5120.Idx) = (ix2 (rowOf t r) l : S16384x5120.Idx) := by
    blk_ext [idx t, rowOf]
  have e' : (show FVec Ideal S256x5120 .bf16 from iblk m c 0 t) (ix2 r l) = (V m c main_v0 : FVec Ideal S16384x5120 .bf16) (((cfg0.win 0).blk t).view.emb (ix2 r l : S256x5120.Idx)) := rfl
  rw [e', e, V_v0]
  exact rows_at (argX m c) (rowOf t r) l

theorem iblk1 (c : Dev nD) (t : Fin cfg0.N) : (show FVec Ideal S256x256 .bf16 from iblk m c 1 t) = halfM := by
  rw [← V_v8 m c]
  blk_ext! [iblk, idx t]

theorem iblk2 (c : Dev nD) (t : Fin cfg0.N) : (show FVec Ideal S128x5120 .bf16 from iblk m c 2 t) = spreadM := by
  rw [← V_v17 m c]
  blk_ext! [iblk, idx t]

variable (c : Dev nD) (hX : ∀ i, Fine (argX m c i))
include hX

theorem outs3 (t : Fin cfg0.N) (y : S256x5120.Idx) : (outsAt0 m c t).1 y = hatV (argX m c) (rowOf t (y 0)) (y 1) := by
  unfold outsAt0
  have h2 := iblk2 m c t
  have h1 := iblk1 m c t
  have h0 := iblk0 m c t
  generalize iblk m c 2 t = x2 at h2 ⊢
  generalize iblk m c 1 t = x1 at h1 ⊢
  generalize iblk m c 0 t = x0 at h0 ⊢
  exact out3_at c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) x0 x1 x2 (argX m c) hX (rowOf t) h0 h1 h2 y

theorem final3 : (dats m 0 c).arrAt 3 cfg0.N = (fun i => hatV (argX m c) (i 0) (i 1) : FVec Ideal S16384x5120 .bf16) := by
  refine (dats m 0 c).arrAt_eq_of_covers 3 _ (by decide +kernel) fun t hf y => ?_
  blk_simp
  rw [after0_3]
  refine (outs3 m c hX t y).trans (congrArg₂ (hatV (argX m c)) (Fin.ext ?_) (Fin.ext ?_))
  · show t.val * 256 + (y 0).val = _
    blk_simp [idx t]
  · blk_simp [idx t]

theorem outs4 (t : Fin cfg0.N) (y : S256x5120.Idx) : (outsAt0 m c t).2.1 y = codeV (argX m c) (rowOf t (y 0)) (y 1) := by
  unfold outsAt0
  have h2 := iblk2 m c t
  have h1 := iblk1 m c t
  have h0 := iblk0 m c t
  generalize iblk m c 2 t = x2 at h2 ⊢
  generalize iblk m c 1 t = x1 at h1 ⊢
  generalize iblk m c 0 t = x0 at h0 ⊢
  exact out4_at c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) x0 x1 x2 (argX m c) hX (rowOf t) h0 h1 h2 y

theorem final4 : (dats m 0 c).arrAt 4 cfg0.N = (fun i => codeV (argX m c) (i 0) (i 1) : FVec Ideal S16384x5120 .fp8e4m3) := by
  refine (dats m 0 c).arrAt_eq_of_covers 4 _ (by decide +kernel) fun t hf y => ?_
  blk_simp
  rw [after0_4]
  refine (outs4 m c hX t y).trans (congrArg₂ (codeV (argX m c)) (Fin.ext ?_) (Fin.ext ?_))
  · show t.val * 256 + (y 0).val = _
    blk_simp [idx t]
  · blk_simp [idx t]

theorem outs5 (t : Fin cfg0.N) (y : S256x40.Idx) : (outsAt0 m c t).2.2 y = scaleV (argX m c) (rowOf t (y 0)) (y 1) := by
  unfold outsAt0
  have h2 := iblk2 m c t
  have h1 := iblk1 m c t
  have h0 := iblk0 m c t
  generalize iblk m c 2 t = x2 at h2 ⊢
  generalize iblk m c 1 t = x1 at h1 ⊢
  generalize iblk m c 0 t = x0 at h0 ⊢
  exact out5_at c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) x0 x1 x2 (argX m c) hX (rowOf t) h0 h1 y

theorem final5 : (dats m 0 c).arrAt 5 cfg0.N = (fun i => scaleV (argX m c) (i 0) (i 1) : FVec Ideal S16384x40 .f32) := by
  refine (dats m 0 c).arrAt_eq_of_covers 5 _ (by decide +kernel) fun t hf y => ?_
  blk_simp
  rw [after0_5]
  refine (outs5 m c hX t y).trans (congrArg₂ (scaleV (argX m c)) (Fin.ext ?_) (Fin.ext ?_))
  · show t.val * 256 + (y 0).val = _
    blk_simp [idx t]
  · blk_simp [idx t]

end Cert.KernelIdeal.Value
end
-- ==== Proof.ReferenceArray.lean ====
/-
  What the reference's host operations hand to its one kernel call, and what they leave as the scales: the same operations,
  written over the argument array.
-/
module

public import proofs.«01_k».proof.Defs
public import proofs.«01_k».proof.Proof.Gen.ReferenceIdeal.Value
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section
open Idealize.ShloMosaic Idealize.ShloMosaic.TcCoe Idealize.SL.Sem
open Idealize.ShloMosaic.Pipeline (Dat)
open Idealize.ShloMosaic.StableHlo
namespace Cert.ReferenceIdeal.Value
open Cert.ReferenceIdeal Cert.ReferenceIdeal.Gen
variable (m : (ℓ : Loc nD τ sig) → Buf (Elt Ideal) ℓ)

section Terms
variable (X : FVec Ideal S16x1024x5120 .bf16)

/-- The argument as rows, in f32. -/
def rows : FVec Ideal S16384x5120 .f32 := extf .f32 (shapeCast S16384x5120 X shapeCasts_S16x1024x5120_S16384x5120) bitsLt_bf16_f32

/-- A number at every place of an array. -/
def whole (w : BitVec 32) : FVec Ideal S16384x5120 .f32 := broadcastInDim S16384x5120 ![] bcast_S_S16384x5120 (constant S_ .f32 w)
def wholeGroups (w : BitVec 32) : FVec Ideal S16384x40 .f32 := broadcastInDim S16384x40 ![] bcast_S_S16384x40 (constant S_ .f32 w)

/-- GELU of every element. -/
def gelu : FVec Ideal S16384x5120 .f32 :=
  mulf (mulf (whole 0x3F000000#32) (rows X)) (addf (whole 0x3F800000#32) (Host.tanh (mulf (whole 0x3F4C422A#32)
    (addf (rows X) (mulf (mulf (mulf (whole 0x3D372713#32) (rows X)) (rows X)) (rows X))))))

/-- The same by groups of 128 channels. -/
def grouped : FVec Ideal S16384x40x128 .f32 := shapeCast S16384x40x128 (gelu X) shapeCasts_S16384x5120_S16384x40x128

/-- The largest magnitude of each group, over 448. -/
def ratio : FVec Ideal S16384x40 .f32 :=
  mulf (Host.reduce FloatOps.maximumf (Host.absf (grouped X)) (constant S_ .f32 0xFF800000#32) reducesTo_S16384x40x128_S16384x40_d2 h_S_)
    (wholeGroups 0x3B124925#32)

/-- The powers of two from 2^-126 on. -/
def powers : FVec Ideal S254 .f32 :=
  Host.powf (broadcastInDim S254 ![] bcast_S_S254 (constant S_ .f32 0x40000000#32))
    (sitofp .f32 (addi (broadcastInDim S254 ![] bcast_S_S254 (constantI S_ 32 4294967170#32)) (iotaInDim S254 32 0)))

/-- Which powers are at most each element of an array. -/
def above (B : FVec Ideal S16384x40 .f32) : IVec S16384x40x254 1 :=
  cmpf .oge
    (broadcastInDim S16384x40x254 ![0, 1, 2] bcast_S16384x40x1_S16384x40x254_0_1_2 (broadcastInDim S16384x40x1 ![0, 1] bcast_S16384x40_S16384x40x1_0_1 B))
    (broadcastInDim S16384x40x254 ![0, 1, 2] bcast_S1x1x254_S16384x40x254_0_1_2 (broadcastInDim S1x1x254 ![2] bcast_S254_S1x1x254_2 powers))

/-- How many they are. -/
def count (B : FVec Ideal S16384x40 .f32) : IVec S16384x40 32 :=
  Host.reduce IntOp.addi (extui 32 (above B) natLt_1_32) (constantI S_ 32 0#32) reducesTo_S16384x40x254_S16384x40_d2 h_S_

/-- The exponent of each element of an array. -/
def exponent (B : FVec Ideal S16384x40 .f32) : FVec Ideal S16384x40 .f32 :=
  sitofp .f32 (select (cmpf .olt B (wholeGroups 0x00800000#32)) (broadcastInDim S16384x40 ![] bcast_S_S16384x40 (constantI S_ 32 0#32))
    (subi (count B) (broadcastInDim S16384x40 ![] bcast_S_S16384x40 (constantI S_ 32 126#32))))

/-- The scales, and their reciprocals. -/
def scale : FVec Ideal S16384x40 .f32 := Host.powf (wholeGroups 0x40000000#32) (exponent (ratio X))
def inv : FVec Ideal S16384x40 .f32 := Host.powf (wholeGroups 0x40000000#32) (Host.negf (exponent (ratio X)))

/-- An array of one number a group, at every channel. -/
def spread (B : FVec Ideal S16384x40 .f32) : FVec Ideal S16384x40x128 .f32 :=
  broadcastInDim S16384x40x128 ![0, 1, 2] bcast_S16384x40x1_S16384x40x128_0_1_2
    (broadcastInDim S16384x40x1 ![0, 1] bcast_S16384x40_S16384x40x1_0_1 (extf .f32 (truncf .bf16 B bitsLt_bf16_f32) bitsLt_bf16_f32))

/-- The clipped quotients, and the scales, at every channel. -/
def scaled : FVec Ideal S16384x5120 .f32 :=
  shapeCast S16384x5120
    (minimumf (broadcastInDim S16384x40x128 ![] bcast_S_S16384x40x128 (constant S_ .f32 0x43E00000#32))
      (maximumf (broadcastInDim S16384x40x128 ![] bcast_S_S16384x40x128 (constant S_ .f32 0xC3E00000#32)) (mulf (grouped X) (spread (inv X)))))
    shapeCasts_S16384x40x128_S16384x5120
def wide : FVec Ideal S16384x5120 .f32 := shapeCast S16384x5120 (spread (scale X)) shapeCasts_S16384x40x128_S16384x5120

end Terms

set_option maxHeartbeats 1000000 in
theorem V_v41 (c : Dev nD) : V m c main_v41 = scale (m ((c : Thread nD τ).loc main_arg0)) := by
  after_reads_simp
  simp -implicitDefEqProofs only [StableHlo.TRef.toBuf, StableHlo.TRef.ofBuf, cast_cast, cast_eq]
  unfold scale exponent count above powers ratio grouped gelu wholeGroups whole rows
  rfl

set_option maxHeartbeats 1000000 in
theorem V_v50 (c : Dev nD) : V m c main_v50 = scaled (m ((c : Thread nD τ).loc main_arg0)) := by
  after_reads_simp
  simp -implicitDefEqProofs only [StableHlo.TRef.toBuf, StableHlo.TRef.ofBuf, cast_cast, cast_eq]
  unfold scaled spread inv exponent count above powers ratio grouped gelu wholeGroups whole rows
  rfl

set_option maxHeartbeats 1000000 in
theorem V_v55 (c : Dev nD) : V m c main_v55 = wide (m ((c : Thread nD τ).loc main_arg0)) := by
  after_reads_simp
  simp -implicitDefEqProofs only [StableHlo.TRef.toBuf, StableHlo.TRef.ofBuf, cast_cast, cast_eq]
  unfold wide spread scale exponent count above powers ratio grouped gelu wholeGroups whole rows
  rfl

end Cert.ReferenceIdeal.Value
end
-- ==== Proof.ReferenceValue.lean ====
/-
  The reference's arrays at an index, and the exponent it reads from a group's ratio.
-/
module

public import proofs.«01_k».proof.Proof.ReferenceArray
public import proofs.«01_k».proof.Proof.Spec

@[expose] public section

set_option maxRecDepth 16384

noncomputable section
open Idealize.ShloMosaic Idealize.ShloMosaic.TcCoe Idealize.SL.Sem
open Idealize.ShloMosaic.Pipeline (Dat)
namespace Cert.ReferenceIdeal.Value
open Cert.ReferenceIdeal Cert.ReferenceIdeal.Gen Cert.Exponent Cert.Gelu Cert.Spec
open Cert.KernelIdeal.Value (over)

/-! ## The exponent -/

/-- The number of powers of two 2^-126, 2^-125, … that are at most b. -/
def cnt (b : EReal) : BitVec 32 :=
  Finset.univ.fold IntOp.addi 0#32 fun x : Fin 254 => BitVec.setWidth 32 (BitVec.ofBool (decide
    (Ideal.pow (Ideal.ofBits .f32 0x40000000#32) (FloatOps.sitofp (F := Ideal) .f32 (IntOp.addi 4294967170#32 (BitVec.ofNat 32 x.val))) ≤ b)))

theorem exps : ∀ k : Fin 254, (IntOp.addi 4294967170#32 (BitVec.ofNat 32 k.val)).toInt = (k.val : ℤ) - 126 := by decide +kernel

theorem pow_two (w : BitVec 32) : Ideal.pow (Ideal.ofBits .f32 0x40000000#32) (FloatOps.sitofp (F := Ideal) .f32 w) = (((2 : ℝ) ^ w.toInt : ℝ) : EReal) := by
  rw [c_two]
  show ((Real.rpow 2 ((w.toInt : ℤ) : ℝ) : ℝ) : EReal) = _
  congr 1
  exact Real.rpow_intCast 2 w.toInt

theorem pow_two_neg (w : BitVec 32) : Ideal.pow (Ideal.ofBits .f32 0x40000000#32) (-(FloatOps.sitofp (F := Ideal) .f32 w : EReal)) = (((2 : ℝ) ^ (-w.toInt) : ℝ) : EReal) := by
  rw [c_two]
  show Ideal.pow _ (-(((w.toInt : ℤ) : ℝ) : EReal)) = _
  rw [← EReal.coe_neg]
  show ((Real.rpow 2 (-((w.toInt : ℤ) : ℝ)) : ℝ) : EReal) = _
  congr 1
  rw [← Int.cast_neg]
  exact Real.rpow_intCast 2 (-w.toInt)

theorem counts : ∀ n : Fin 247, (Finset.univ.fold IntOp.addi 0#32 fun k : Fin 254 => BitVec.setWidth 32 (BitVec.ofBool (decide (k.val + 1 ≤ n.val)))) = BitVec.ofNat 32 n.val := by
  decide +kernel

theorem cnt_eq (b : EReal) (n : ℕ) (h : IsField b n) : cnt b = BitVec.ofNat 32 n := by
  obtain ⟨hn, h1, h2⟩ := h
  rw [← counts ⟨n, by omega⟩]
  unfold cnt
  refine Finset.fold_congr fun k _ => ?_
  have hk : k.val < 254 := k.isLt
  rw [pow_two, exps]
  have e : (((2 : ℝ) ^ ((k.val : ℤ) - 126) : ℝ) : EReal) = pwr (k.val + 1) := by
    rw [pwr_of (by omega) (by omega)]
    congr 2
    push_cast
    ring
  rw [e]
  congr 2
  refine decide_eq_decide.mpr ⟨fun hle => ?_, fun hle => (pwr_mono (show k.val + 1 ≤ n from hle) (by omega)).trans h1⟩
  show k.val + 1 ≤ n
  by_contra hc
  exact absurd (lt_of_lt_of_le h2 ((pwr_mono (by omega : n + 1 ≤ k.val + 1) (by omega)).trans hle)) (lt_irrefl _)

/-- The exponent word, as the reference computes it. -/
def rexp (b : EReal) : BitVec 32 := if b < Ideal.ofBits .f32 0x00800000#32 then 0#32 else IntOp.subi (cnt b) 126#32

theorem rexp_eq (b : EReal) (n : ℕ) (h : IsField b n) : rexp b = word n := by
  have hp : Ideal.ofBits .f32 0x00800000#32 = pwr 1 := ofBits_pwr 1 (by decide)
  unfold rexp word
  rw [cnt_eq b n h, hp]
  obtain ⟨hn, h1, h2⟩ := h
  by_cases h0 : n = 0
  · subst h0
    rw [if_pos h2, if_pos rfl]
  · rw [if_neg (not_lt.mpr ((pwr_mono (by omega) (by omega)).trans h1)), if_neg h0]
    rfl

theorem word_toInt (n : ℕ) (h : n ≤ 246) : (word n).toInt = ex n := (words ⟨n, by omega⟩).2.2.2

/-! ## The arrays -/

variable (X : FVec Ideal S16x1024x5120 .bf16)

theorem gelu_at (r : Fin 16384) (c : Fin 5120) : gelu X (ix2 r c) = ge (row X r c) := by
  have e : rows X (ix2 r c) = row X r c := by pointwise [rows]; rfl
  rw [← e]
  pointwise [gelu, whole]
  rfl

theorem grouped_at (r : Fin 16384) (g : Fin 40) (k : Fin 128) : grouped X (ix3 r g k) = ge (grp X r g k) := by
  refine Eq.trans ?_ (gelu_at X r _)
  pointwise [grouped]

/-- The largest magnitude of each group of an array, over 448. -/
def topOver (G : FVec Ideal S16384x40x128 .f32) : FVec Ideal S16384x40 .f32 :=
  mulf (Host.reduce FloatOps.maximumf (Host.absf G) (constant S_ .f32 0xFF800000#32) reducesTo_S16384x40x128_S16384x40_d2 h_S_)
    (wholeGroups 0x3B124925#32)

theorem top_at (G : FVec Ideal S16384x40x128 .f32) (i : S16384x40.Idx) :
    Host.reduce FloatOps.maximumf G (constant S_ .f32 0xFF800000#32) reducesTo_S16384x40x128_S16384x40_d2 h_S_ i
      = Finset.univ.fold max (Ideal.ofBits .f32 0xFF800000#32) fun k : Fin 128 => G (ix3 (i 0) (i 1) k) := by
  pointwise

theorem mul_at (A : FVec Ideal S16384x40 .f32) (w : BitVec 32) (i : S16384x40.Idx) : mulf A (wholeGroups w) i = A i * Ideal.ofBits .f32 w := by
  pointwise [wholeGroups]

theorem topOver_at (G : FVec Ideal S16384x40x128 .f32) (i : S16384x40.Idx) :
    topOver G i = over (Finset.univ.fold max (Ideal.ofBits .f32 0xFF800000#32) fun k : Fin 128 => (Host.absf G : FVec Ideal S16384x40x128 .f32) (ix3 (i 0) (i 1) k)) := by
  unfold over topOver
  rw [mul_at, top_at]

theorem topOver_rg (G : FVec Ideal S16384x40x128 .f32) (f : Fin 16384 → Fin 40 → Fin 128 → EReal) (h : ∀ r g k, G (ix3 r g k) = f r g k) (r : Fin 16384) (g : Fin 40) :
    topOver G (ix2 r g) = over (Finset.univ.fold max (Ideal.ofBits .f32 0xFF800000#32) fun k : Fin 128 => FloatOps.absf (F := Ideal) (φ := .f32) (f r g k)) := by
  have e : (fun k : Fin 128 => FloatOps.absf (F := Ideal) (φ := .f32) (G (ix3 r g k))) = fun k => FloatOps.absf (F := Ideal) (φ := .f32) (f r g k) :=
    funext fun k => by rw [h]
  rw [← e, topOver_at]
  exact rfl

theorem ratio_eq : ratio X = topOver (grouped X) := by
  unfold ratio topOver
  exact rfl

theorem ratio_at (r : Fin 16384) (g : Fin 40) : ratio X (ix2 r g) = ratioV X r g := by
  rw [ratio_eq]
  exact topOver_rg (grouped X) (fun r g k => ge (grp X r g k)) (grouped_at X) r g

theorem exponent_at (B : FVec Ideal S16384x40 .f32) (i : S16384x40.Idx) : exponent B i = FloatOps.sitofp (F := Ideal) .f32 (rexp (B i)) := by
  have e : count B i = cnt (B i) := by pointwise [count, above, powers]; rfl
  unfold rexp
  rw [← e]
  pointwise [exponent, wholeGroups]
  try rfl

variable (hX : ∀ i, Fine (X i))
include hX

theorem scale_at (r : Fin 16384) (g : Fin 40) : scale X (ix2 r g) = scaleV X r g := by
  have e : scale X (ix2 r g) = Ideal.pow (Ideal.ofBits .f32 0x40000000#32) (exponent (ratio X) (ix2 r g)) := by pointwise [scale, wholeGroups]
  obtain ⟨n, h1, h2⟩ := ratio_field X hX r g
  rw [e, exponent_at, ratio_at, rexp_eq _ n h2, pow_two, word_toInt n h2.1]
  exact (kscale_eq _ n h1 h2.1).symm

theorem inv_at (r : Fin 16384) (g : Fin 40) : inv X (ix2 r g) = kinv (ratioV X r g) := by
  have e : inv X (ix2 r g) = Ideal.pow (Ideal.ofBits .f32 0x40000000#32) (-exponent (ratio X) (ix2 r g)) := by pointwise [inv, wholeGroups]
  obtain ⟨n, h1, h2⟩ := ratio_field X hX r g
  rw [e, exponent_at, ratio_at, rexp_eq _ n h2, pow_two_neg, word_toInt n h2.1]
  exact (kinv_eq _ n h1 h2.1).symm

theorem wide_at (r : Fin 16384) (c : Fin 5120) : wide X (ix2 r c) = scaleV X r (gof c) := by
  refine Eq.trans ?_ (scale_at X hX r (gof c))
  pointwise [wide, spread]
  rfl

theorem scaled_at (r : Fin 16384) (c : Fin 5120) : scaled X (ix2 r c) = codeV X r c := by
  have e : scaled X (ix2 r c) = min (Ideal.ofBits .f32 0x43E00000#32) (max (Ideal.ofBits .f32 0xC3E00000#32)
      (grouped X (ix3 r (gof c) ⟨c.val % 128, Nat.mod_lt _ (by decide)⟩) * inv X (ix2 r (gof c)))) := by
    pointwise [scaled, spread]
    try rfl
  rw [e, grouped_at, inv_at X hX]
  unfold codeV grp
  have ec : (⟨(gof c).val * 128 + c.val % 128, by have := c.isLt; unfold gof; simp only; omega⟩ : Fin 5120) = c := Fin.ext (by unfold gof; simp only; omega)
  rw [ec]

end Cert.ReferenceIdeal.Value
end
-- ==== Proof.ReferenceFinal.lean ====
/-
  The reference's three result arrays after its run, entry by entry.
-/
module

public import proofs.«01_k».proof.Proof.ReferenceValue

@[expose] public section

set_option maxRecDepth 16384

noncomputable section
open Idealize.ShloMosaic Idealize.ShloMosaic.TcCoe Idealize.SL.Sem
open Idealize.ShloMosaic.Pipeline (Dat)
namespace Cert.ReferenceIdeal.Value
open Cert.ReferenceIdeal Cert.ReferenceIdeal.Gen
open Cert.Exponent Cert.Spec Cert.Gelu
variable (m : (ℓ : Loc nD τ sig) → Buf (Elt Ideal) ℓ)

variable (c : Dev nD)

/-- The argument. -/
abbrev argX : SX.Idx → EReal := (m ((c : Thread nD τ).loc main_arg0) : FVec Ideal S16x1024x5120 .bf16)

/-- The kernel call multiplies codes and scales, and leaves the codes: its casts change nothing. -/
theorem pay2_at (P Q : FVec Ideal S16384x5120 .f32) (y : S16384x5120.Idx) : k0_pay2 (F := Ideal) P Q y = P y * Q y := by
  rw [lay2_0_eq]
  pointwise
theorem pay1_at (P : FVec Ideal S16384x5120 .f32) (y : S16384x5120.Idx) : k0_pay1 (F := Ideal) P y = P y := by
  rw [lay3_0_eq]
  pointwise

/-- The call's blocks are the whole arrays. -/
theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

theorem emb0 (t : Fin cfg0.N) (y : S16384x5120.Idx) : ((cfg0.win 0).blk t).view.emb y = y := by
  blk_ext [idx t]
theorem iblk0 (t : Fin cfg0.N) (y : S16384x5120.Idx) : (show FVec Ideal S16384x5120 .f32 from iblk m c 0 t) y = scaled (argX m c) y := by
  have e : (show FVec Ideal S16384x5120 .f32 from iblk m c 0 t) y = (V m c main_v50 : FVec Ideal S16384x5120 .f32) (((cfg0.win 0).blk t).view.emb y) := rfl
  rw [e, emb0, V_v50]

theorem emb1 (t : Fin cfg0.N) (y : S16384x5120.Idx) : ((cfg0.win 1).blk t).view.emb y = y := by
  blk_ext [idx t]
theorem iblk1 (t : Fin cfg0.N) (y : S16384x5120.Idx) : (show FVec Ideal S16384x5120 .f32 from iblk m c 1 t) y = wide (argX m c) y := by
  have e : (show FVec Ideal S16384x5120 .f32 from iblk m c 1 t) y = (V m c main_v55 : FVec Ideal S16384x5120 .f32) (((cfg0.win 1).blk t).view.emb y) := rfl
  rw [e, emb1, V_v55]

theorem ld_at (P : FVec Ideal S16384x5120 .f32) (y : S16384x5120.Idx) : View.ld (S := S16384x5120) (e' := .f32) (Val := Elt Ideal) P r0_0 y = P y := by
  refine congrArg P ?_
  funext a
  match a with
  | 0 => exact Fin.ext (by simp)
  | 1 => exact Fin.ext (by simp)

theorem out2_at (P Q : FVec Ideal S16384x5120 .f32) (y : S16384x5120.Idx) : out0_2 (F := Ideal) P Q y = P y * Q y := by
  unfold out0_2
  rw [View.canon_cons_unit_lit' _ _ [] (fun a => by fin_cases a <;> rfl), pay2_at, ld_at, ld_at]

theorem out3_at (P Q : FVec Ideal S16384x5120 .f32) (y : S16384x5120.Idx) : out0_3 (F := Ideal) P Q y = P y := by
  unfold out0_3
  rw [View.canon_cons_unit_lit' _ _ [] (fun a => by fin_cases a <;> rfl), pay1_at, ld_at]

theorem outs2 (hX : ∀ i, Fine (argX m c i)) (t : Fin cfg0.N) (y : S16384x5120.Idx) : out0_2 (F := Ideal) (iblk m c 0 t) (iblk m c 1 t) y = hatV (argX m c) (y 0) (y 1) := by
  have h0 := iblk0 m c t
  have h1 := iblk1 m c t
  generalize iblk m c 0 t = P at h0 ⊢
  generalize iblk m c 1 t = Q at h1 ⊢
  have ey : (ix2 (y 0) (y 1) : S16384x5120.Idx) = y := by funext a; match a with | 0 => rfl | 1 => rfl
  have e0 := scaled_at (argX m c) hX (y 0) (y 1)
  have e1 := wide_at (argX m c) hX (y 0) (y 1)
  rw [ey] at e0 e1
  exact (out2_at P Q y).trans (congrArg₂ (· * ·) ((h0 y).trans e0) ((h1 y).trans e1))

theorem outs3 (hX : ∀ i, Fine (argX m c i)) (t : Fin cfg0.N) (y : S16384x5120.Idx) : out0_3 (F := Ideal) (iblk m c 0 t) (iblk m c 1 t) y = codeV (argX m c) (y 0) (y 1) := by
  have h0 := iblk0 m c t
  generalize iblk m c 0 t = P at h0 ⊢
  generalize iblk m c 1 t = Q
  have ey : (ix2 (y 0) (y 1) : S16384x5120.Idx) = y := by funext a; match a with | 0 => rfl | 1 => rfl
  have e0 := scaled_at (argX m c) hX (y 0) (y 1)
  rw [ey] at e0
  exact (out3_at P Q y).trans ((h0 y).trans e0)

variable (hX : ∀ i, Fine (argX m c i))
include hX

theorem final2 : (dats m 0 c).arrAt 2 cfg0.N = (fun i => hatV (argX m c) (i 0) (i 1) : FVec Ideal S16384x5120 .bf16) := by
  refine (dats m 0 c).arrAt_eq_of_covers 2 _ (by decide +kernel) fun t hf y => ?_
  blk_simp
  rw [after0_2]
  refine (outs2 m c hX t y).trans (congrArg₂ (hatV (argX m c)) (Fin.ext ?_) (Fin.ext ?_))
  · blk_simp [idx t]
  · blk_simp [idx t]

theorem final3 : (dats m 0 c).arrAt 3 cfg0.N = (fun i => codeV (argX m c) (i 0) (i 1) : FVec Ideal S16384x5120 .fp8e4m3) := by
  refine (dats m 0 c).arrAt_eq_of_covers 3 _ (by decide +kernel) fun t hf y => ?_
  blk_simp
  rw [after0_3]
  refine (outs3 m c hX t y).trans (congrArg₂ (codeV (argX m c)) (Fin.ext ?_) (Fin.ext ?_))
  · blk_simp [idx t]
  · blk_simp [idx t]

theorem final41 (r : PUnit × MemSt nD τ sig (Elt Ideal)) (h : Pipeline.FramePost cfgs (dats m) 0 (V m) r) :
    r.2.mem ((c : Thread nD τ).loc main_v41) = (fun i => scaleV (argX m c) (i 0) (i 1) : FVec Ideal S16384x40 .f32) := by
  refine ((h c).2 main_v41 (Pipeline.mem_restRefs_of main_v41 (by decide) (by decide))).trans ?_
  rw [V_v41]
  funext i
  refine Eq.trans ?_ (scale_at (argX m c) hX (i 0) (i 1))
  refine congrArg (scale (argX m c)) ?_
  funext a
  match a with | 0 => rfl | 1 => rfl

end Cert.ReferenceIdeal.Value
end
-- ==== Proof.Algebraic.lean ====
/-
  Over the extended reals the kernel and the reference end with the same three results, of every argument whose entries are
  finite bf16 numbers.
-/
module

public import proofs.«01_k».proof.Proof.KernelFinal
public import proofs.«01_k».proof.Proof.ReferenceFinal
public import proofs.«01_k».proof.Proof.Gen.Pre_finite
public import Idealize.ShloMosaic.Lib.ReduceAll

@[expose] public section

noncomputable section
open Idealize.ShloMosaic Idealize.ShloMosaic.TcCoe Idealize.SL.Sem
namespace Cert.Algebraic
open Cert.Spec Cert.Gelu

instance : Subsingleton Cert.Pre_finite.S_.Idx := ⟨fun a b => funext fun k => k.elim0⟩

/-- The precondition says that every entry is a finite bf16 number. -/
theorem fine_of_pre (X : FVec Ideal Cert.Pre_finite.S16x1024x5120 .bf16) (h : Cert.Pre_finite.fn (F := Ideal) X = fun _ => 1#1) (i : SX.Idx) : Fine (X i) := by
  have h0 := congrFun h ix0
  have h1 := Host.reduce_andi_all _ _ _ _ _ h0 i
  refine fine_of_le (X i) (by_contra fun hn => ?_)
  have h2 : BitVec.ofBool (decide (max (X i) (-X i) ≤ Ideal.ofBits .f32 0x7F7F0000#32)) = 1#1 := h1
  rw [decide_eq_false hn] at h2
  exact absurd h2 (by decide)

theorem algebraic : Cert.algebraic_KernelIdeal_ReferenceIdeal_pre_finite := by
  intro m g m' g' hpre hagree
  have hX : ∀ c i, Fine (Cert.KernelIdeal.Value.argX m c i) := fun c i => fine_of_pre _ (hpre c) i
  have hX' : ∀ c i, Fine (Cert.ReferenceIdeal.Value.argX m' c i) := fun c i => by
    have e : Cert.ReferenceIdeal.Value.argX m' c = Cert.KernelIdeal.Value.argX m c := hagree c
    rw [e]
    exact hX c i
  refine ⟨fun c => (fun i => hatV (Cert.KernelIdeal.Value.argX m c) (i 0) (i 1) : FVec Ideal Cert.KernelIdeal.S16384x5120 .bf16),
    fun c => (fun i => codeV (Cert.KernelIdeal.Value.argX m c) (i 0) (i 1) : FVec Ideal Cert.KernelIdeal.S16384x5120 .fp8e4m3),
    fun c => (fun i => scaleV (Cert.KernelIdeal.Value.argX m c) (i 0) (i 1) : FVec Ideal Cert.KernelIdeal.S16384x40 .f32), (θ_run Cert.KernelIdeal.defs _ _).mono (fun r h c => ?_) (Cert.KernelIdeal.Value.run_blocks (F := Ideal) m g),
    (θ_run Cert.ReferenceIdeal.defs _ _).mono (fun r h c => ?_) (Cert.ReferenceIdeal.Gen.run_main (F := Ideal) m' g')⟩
  · obtain ⟨h0, h1, h2, h3⟩ := h c
    exact ⟨h0.trans (Cert.KernelIdeal.Value.final3 m c (hX c)), h1.trans (Cert.KernelIdeal.Value.final4 m c (hX c)),
      h2.trans (Cert.KernelIdeal.Value.final5 m c (hX c)), h3⟩
  · have e : Cert.ReferenceIdeal.Value.argX m' c = Cert.KernelIdeal.Value.argX m c := hagree c
    have h0 := (Cert.ReferenceIdeal.Value.post2 m' r h c).trans (Cert.ReferenceIdeal.Value.final2 m' c (hX' c))
    have h1 := (Cert.ReferenceIdeal.Value.post3 m' r h c).trans (Cert.ReferenceIdeal.Value.final3 m' c (hX' c))
    have h2 := Cert.ReferenceIdeal.Value.final41 m' c (hX' c) r h
    rw [e] at h0 h1 h2
    exact ⟨h0, h1, h2, Cert.ReferenceIdeal.Value.kept_main_arg0 m' r h c⟩

end Cert.Algebraic
end
-- ==== Proof.lean ====
/-
  The claims: both programs run and leave their argument as it was, the idealized kernel's one named constant is the
  kernel's, and over the extended reals kernel and reference end with the same three results.
-/
module

public import proofs.«01_k».proof.Defs
public import proofs.«01_k».proof.Proof.Gen.KernelIdeal.Value
public import proofs.«01_k».proof.Proof.Gen.ReferenceIdeal.Value
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The one named constant is eight times the product of the two constants of GELU's argument. -/
theorem preserves : Cert.preserves_Kernel_KernelIdeal :=
  IdealRules.named_const.statement Cert.KernelIdeal.κ "eight_a_c" .f32 0x3E922279#32
    ((80338380498831 / 281474976710656 : ℝ) : EReal) rfl

theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, preserves, Cert.Algebraic.algebraic⟩

end Cert.Proof

end
